-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S1 : Shape := ⟨1, ![1]⟩
abbrev S4096x4096 : Shape := ⟨2, ![4096, 4096]⟩
abbrev S2048x512 : Shape := ⟨2, ![2048, 512]⟩
abbrev S1024x512 : Shape := ⟨2, ![1024, 512]⟩
abbrev S2048x1024 : Shape := ⟨2, ![2048, 1024]⟩
abbrev S4x2048x1024 : Shape := ⟨3, ![4, 2048, 1024]⟩
abbrev S4 : Shape := ⟨1, ![4]⟩
abbrev S1x2048x1024 : Shape := ⟨3, ![1, 2048, 1024]⟩

abbrev nBuf : Space → Nat
  | .hbm => 9
  | .vmem => 7
  | .smem => 1
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S4x2048x1024, .bf16⟩
  | .local _ .vmem, ⟨6, _⟩ => ⟨S4x2048x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![4, 16], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let arg1 : BitVec 32 := BitVec.ofNat 32 (i 1).val
  let c0_i32_2 : BitVec 32 := 0#32
  let v7 : BitVec 1 := Scalar.cmpi .eq arg1 c0_i32_2
  let v8 : BitVec 1 := Scalar.andi v6 v7
  let v9 : BitVec 32 := Scalar.extui v8
  let c0_i32_3 : BitVec 32 := 0#32
  let v10 : BitVec 1 := Scalar.cmpi .ne v9 c0_i32_3
  v10

def k0_dev1 (d0 : Dev nD) : Nat :=
  let c0_i32_26 : BitVec 32 := 0#32
  let c1_i32_23 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v45 : BitVec 32 := Scalar.subi c1_i32_23 v2
  let c2_i32_25 : BitVec 32 := 2#32
  let v46 : BitVec 32 := Scalar.muli v45 c2_i32_25
  let v47 : BitVec 32 := Scalar.addi c0_i32_26 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v48 : BitVec 32 := Scalar.muli v5 c1_i32_27
  let v49 : BitVec 32 := Scalar.addi v47 v48
  v49.toNat
def k0_dev2 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v51 : BitVec 32 := Scalar.muli v2 c2_i32_30
  let v52 : BitVec 32 := Scalar.addi c0_i32_31 v51
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v50 : BitVec 32 := Scalar.subi c1_i32_28 v5
  let c1_i32_32 : BitVec 32 := 1#32
  let v53 : BitVec 32 := Scalar.muli v50 c1_i32_32
  let v54 : BitVec 32 := Scalar.addi v52 v53
  v54.toNat
def k0_cond3 (i : grid0.Coords) : BitVec 1 :=
  let arg0 : BitVec 32 := BitVec.ofNat 32 (i 0).val
  let c0_i32_13 : BitVec 32 := 0#32
  let v24 : BitVec 1 := Scalar.cmpi .eq arg0 c0_i32_13
  let arg1 : BitVec 32 := BitVec.ofNat 32 (i 1).val
  let c15_i32 : BitVec 32 := 15#32
  let v25 : BitVec 1 := Scalar.cmpi .eq arg1 c15_i32
  let v26 : BitVec 1 := Scalar.andi v24 v25
  let v27 : BitVec 32 := Scalar.extui v26
  let c0_i32_14 : BitVec 32 := 0#32
  let v28 : BitVec 1 := Scalar.cmpi .ne v27 c0_i32_14
  v28

def k0_dev3 (d0 : Dev nD) : Nat :=
  let c0_i32_34 : BitVec 32 := 0#32
  let c1_i32_28 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v49 : BitVec 32 := Scalar.subi c1_i32_28 v2
  let c2_i32_33 : BitVec 32 := 2#32
  let v50 : BitVec 32 := Scalar.muli v49 c2_i32_33
  let v51 : BitVec 32 := Scalar.addi c0_i32_34 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v52 : BitVec 32 := Scalar.muli v5 c1_i32_35
  let v53 : BitVec 32 := Scalar.addi v51 v52
  v53.toNat
def k0_cond4 (i : grid0.Coords) : BitVec 1 :=
  let arg0 : BitVec 32 := BitVec.ofNat 32 (i 0).val
  let c1_i32_15 : BitVec 32 := 1#32
  let v29 : BitVec 1 := Scalar.cmpi .eq arg0 c1_i32_15
  let arg1 : BitVec 32 := BitVec.ofNat 32 (i 1).val
  let c15_i32_16 : BitVec 32 := 15#32
  let v30 : BitVec 1 := Scalar.cmpi .eq arg1 c15_i32_16
  let v31 : BitVec 1 := Scalar.andi v29 v30
  let v32 : BitVec 32 := Scalar.extui v31
  let c0_i32_17 : BitVec 32 := 0#32
  let v33 : BitVec 1 := Scalar.cmpi .ne v32 c0_i32_17
  v33

def k0_dev4 (d0 : Dev nD) : Nat :=
  let c0_i32_33 : BitVec 32 := 0#32
  let c1_i32_27 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v49 : BitVec 32 := Scalar.subi c1_i32_27 v2
  let c2_i32_32 : BitVec 32 := 2#32
  let v50 : BitVec 32 := Scalar.muli v49 c2_i32_32
  let v51 : BitVec 32 := Scalar.addi c0_i32_33 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v52 : BitVec 32 := Scalar.muli v5 c1_i32_34
  let v53 : BitVec 32 := Scalar.addi v51 v52
  v53.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v90 : BitVec 32 := Scalar.muli v5 c2048_i32
  let c0_i32_76 : BitVec 32 := 0#32
  ![v90.toNat, 0]
def k0_dev5 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v92 : BitVec 32 := Scalar.muli v2 c2_i32_73
  let v93 : BitVec 32 := Scalar.addi c0_i32_74 v92
  let c1_i32_69 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v91 : BitVec 32 := Scalar.subi c1_i32_69 v5
  let c1_i32_75 : BitVec 32 := 1#32
  let v94 : BitVec 32 := Scalar.muli v91 c1_i32_75
  let v95 : BitVec 32 := Scalar.addi v93 v94
  v95.toNat
def k0_cond5 (i : grid0.Coords) : BitVec 1 :=
  let arg0 : BitVec 32 := BitVec.ofNat 32 (i 0).val
  let c2_i32_18 : BitVec 32 := 2#32
  let v34 : BitVec 1 := Scalar.cmpi .eq arg0 c2_i32_18
  let arg1 : BitVec 32 := BitVec.ofNat 32 (i 1).val
  let c15_i32_19 : BitVec 32 := 15#32
  let v35 : BitVec 1 := Scalar.cmpi .eq arg1 c15_i32_19
  let v36 : BitVec 1 := Scalar.andi v34 v35
  let v37 : BitVec 32 := Scalar.extui v36
  let c0_i32_20 : BitVec 32 := 0#32
  let v38 : BitVec 1 := Scalar.cmpi .ne v37 c0_i32_20
  v38

def k0_dev6 (d0 : Dev nD) : Nat :=
  let c0_i32_33 : BitVec 32 := 0#32
  let c1_i32_27 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v49 : BitVec 32 := Scalar.subi c1_i32_27 v2
  let c2_i32_32 : BitVec 32 := 2#32
  let v50 : BitVec 32 := Scalar.muli v49 c2_i32_32
  let v51 : BitVec 32 := Scalar.addi c0_i32_33 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v52 : BitVec 32 := Scalar.muli v5 c1_i32_34
  let v53 : BitVec 32 := Scalar.addi v51 v52
  v53.toNat
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v90 : BitVec 32 := Scalar.muli v5 c2048_i32
  let c1024_i32 : BitVec 32 := 1024#32
  ![v90.toNat, 1024]
def k0_dev7 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v92 : BitVec 32 := Scalar.muli v2 c2_i32_72
  let v93 : BitVec 32 := Scalar.addi c0_i32_73 v92
  let c1_i32_68 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v91 : BitVec 32 := Scalar.subi c1_i32_68 v5
  let c1_i32_74 : BitVec 32 := 1#32
  let v94 : BitVec 32 := Scalar.muli v91 c1_i32_74
  let v95 : BitVec 32 := Scalar.addi v93 v94
  v95.toNat
def k0_cond6 (i : grid0.Coords) : BitVec 1 :=
  let arg0 : BitVec 32 := BitVec.ofNat 32 (i 0).val
  let c3_i32 : BitVec 32 := 3#32
  let v39 : BitVec 1 := Scalar.cmpi .eq arg0 c3_i32
  let arg1 : BitVec 32 := BitVec.ofNat 32 (i 1).val
  let c15_i32_21 : BitVec 32 := 15#32
  let v40 : BitVec 1 := Scalar.cmpi .eq arg1 c15_i32_21
  let v41 : BitVec 1 := Scalar.andi v39 v40
  let v42 : BitVec 32 := Scalar.extui v41
  let c0_i32_22 : BitVec 32 := 0#32
  let v43 : BitVec 1 := Scalar.cmpi .ne v42 c0_i32_22
  v43

def k0_dev8 (d0 : Dev nD) : Nat :=
  let c0_i32_33 : BitVec 32 := 0#32
  let c1_i32_27 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v49 : BitVec 32 := Scalar.subi c1_i32_27 v2
  let c2_i32_32 : BitVec 32 := 2#32
  let v50 : BitVec 32 := Scalar.muli v49 c2_i32_32
  let v51 : BitVec 32 := Scalar.addi c0_i32_33 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v52 : BitVec 32 := Scalar.muli v5 c1_i32_34
  let v53 : BitVec 32 := Scalar.addi v51 v52
  v53.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v90 : BitVec 32 := Scalar.muli v5 c2048_i32
  let c2048_i32_75 : BitVec 32 := 2048#32
  ![v90.toNat, 2048]
def k0_dev9 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v92 : BitVec 32 := Scalar.muli v2 c2_i32_72
  let v93 : BitVec 32 := Scalar.addi c0_i32_73 v92
  let c1_i32_68 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v91 : BitVec 32 := Scalar.subi c1_i32_68 v5
  let c1_i32_74 : BitVec 32 := 1#32
  let v94 : BitVec 32 := Scalar.muli v91 c1_i32_74
  let v95 : BitVec 32 := Scalar.addi v93 v94
  v95.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_114 : BitVec 32 := 2048#32
  let v137 : BitVec 32 := Scalar.muli v5 c2048_i32_114
  let c3072_i32 : BitVec 32 := 3072#32
  ![v137.toNat, 3072]
def k0_dev10 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v139 : BitVec 32 := Scalar.muli v2 c2_i32_119
  let v140 : BitVec 32 := Scalar.addi c0_i32_120 v139
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v138 : BitVec 32 := Scalar.subi c1_i32_115 v5
  let c1_i32_121 : BitVec 32 := 1#32
  let v141 : BitVec 32 := Scalar.muli v138 c1_i32_121
  let v142 : BitVec 32 := Scalar.addi v140 v141
  v142.toNat
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_130 : BitVec 32 := 2048#32
  let v156 : BitVec 32 := Scalar.muli v5 c2048_i32_130
  let c0_i32_138 : BitVec 32 := 0#32
  ![v156.toNat, 0]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_154 : BitVec 32 := 2048#32
  let v178 : BitVec 32 := Scalar.muli v5 c2048_i32_154
  let c1024_i32 : BitVec 32 := 1024#32
  ![v178.toNat, 1024]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S4096x16384, .f32⟩
  | .hbm, ⟨3, _⟩ => ⟨S4096x16384, .f32⟩
  | .hbm, ⟨4, _⟩ => ⟨S16384x4096, .f32⟩
  | .hbm, ⟨5, _⟩ => ⟨S4096x4096, .f32⟩
  | .hbm, ⟨6, _⟩ => ⟨S4096x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Geometry.lean ====
/-
# The pieces of memory the kernel's transfers move, and who stands across from whom

Device `c` of the 2 × 2 mesh is at `(c / 2, c % 2)`. Across the first axis stands `px c`, across the second `py c`.
The two VMEM scratch buffers are cut into four slots each, one per block of 1024 output columns; the output array is
cut into eight blocks of 2048 rows and 1024 columns, of which a device computes the four in the rows its place on the
second axis names and is sent the other four by `py c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Rounds
public import Idealize.ShloMosaic.Lib.Memref
public import Idealize.ShloMosaic.Lib.Tactic

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-! ## The neighbours -/

/-- The device across the first mesh axis. -/
def px (c : Dev nD) : Dev nD := ⟨(c.val + 2) % 4, Nat.mod_lt _ (by decide)⟩
/-- The device across the second. -/
def py (c : Dev nD) : Dev nD := ⟨(2 * (c.val / 2) + 1) - c.val % 2, by have := c.isLt; simp only [nD] at *; omega⟩

theorem px_px (c : Dev nD) : px (px c) = c := by revert c; decide
theorem py_py (c : Dev nD) : py (py c) = c := by revert c; decide
theorem px_py (c : Dev nD) : px (py c) = py (px c) := by revert c; decide
theorem px_ne (c : Dev nD) : px c ≠ c := by revert c; decide
theorem py_ne (c : Dev nD) : py c ≠ c := by revert c; decide
theorem px_ne_py (c : Dev nD) : px c ≠ py c := by revert c; decide
theorem px_row (c : Dev nD) : (px c).val % 2 = c.val % 2 := by revert c; decide
theorem py_row (c : Dev nD) : (py c).val % 2 = 1 - c.val % 2 := by revert c; decide

def pxEquiv : Dev nD ≃ Dev nD := ⟨px, px, px_px, px_px⟩
def pyEquiv : Dev nD ≃ Dev nD := ⟨py, py, py_py, py_py⟩

theorem dev1 (c : Dev nD) (h) : (⟨k0_dev1 c, h⟩ : Dev nD) = px c := by revert h; rw [k0_dev1_eq]; intro h; revert c; decide
theorem dev2 (c : Dev nD) (h) : (⟨k0_dev2 c, h⟩ : Dev nD) = py c := by revert h; rw [k0_dev2_eq]; intro h; revert c; decide
theorem dev3 (c : Dev nD) (h) : (⟨k0_dev3 c, h⟩ : Dev nD) = px c := by revert h; rw [k0_dev3_eq]; intro h; revert c; decide
theorem dev4 (c : Dev nD) (h) : (⟨k0_dev4 c, h⟩ : Dev nD) = px c := by revert h; rw [k0_dev4_eq]; intro h; revert c; decide
theorem dev5 (c : Dev nD) (h) : (⟨k0_dev5 c, h⟩ : Dev nD) = py c := by revert h; rw [k0_dev5_eq]; intro h; revert c; decide
theorem dev6 (c : Dev nD) (h) : (⟨k0_dev6 c, h⟩ : Dev nD) = px c := by revert h; rw [k0_dev6_eq]; intro h; revert c; decide
theorem dev7 (c : Dev nD) (h) : (⟨k0_dev7 c, h⟩ : Dev nD) = py c := by revert h; rw [k0_dev7_eq]; intro h; revert c; decide
theorem dev8 (c : Dev nD) (h) : (⟨k0_dev8 c, h⟩ : Dev nD) = px c := by revert h; rw [k0_dev8_eq]; intro h; revert c; decide
theorem dev9 (c : Dev nD) (h) : (⟨k0_dev9 c, h⟩ : Dev nD) = py c := by revert h; rw [k0_dev9_eq]; intro h; revert c; decide
theorem dev10 (c : Dev nD) (h) : (⟨k0_dev10 c, h⟩ : Dev nD) = py c := by revert h; rw [k0_dev10_eq]; intro h; revert c; decide

/-! ## The slots of a scratch buffer -/

theorem slot_inb (p : Fin 4) : ∀ a, (![p.val, 0, 0] : Fin 3 → Nat) a + S1x2048x1024.size a ≤ S4x2048x1024.size a := by
  revert p; decide

/-- Slot `p` of a four-slot buffer as a rectangle of it, -/
abbrev slotR (p : Fin 4) : Rect S4x2048x1024 := Rect.unit (s := S4x2048x1024) ![p.val, 0, 0] S1x2048x1024.size (slot_inb p)
/-- and as the memref of 2048 × 1024 elements the transfers name. -/
abbrev slot (M : Memref sig .tc .vmem S4x2048x1024 .bf16) (p : Fin 4) : Memref sig .tc .vmem S2048x1024 .bf16 :=
  (M.slice (slotR p) (fun _ => rfl)).squeeze S2048x1024 squeezes_S1x2048x1024_S2048x1024

/-- The buffer of partial products, reduced in place: slot `p`. -/
abbrev pM : Memref sig .tc .vmem S4x2048x1024 .bf16 := Memref.whole cc0_scratch1
/-- The buffer the neighbour's partial products arrive in. -/
abbrev xM : Memref sig .tc .vmem S4x2048x1024 .bf16 := Memref.whole cc0_scratch2
/-- The accumulator. -/
abbrev aM : Memref sig .tc .vmem S2048x1024 .f32 := Memref.whole cc0_scratch0

/-! ## The blocks of the output -/

theorem ob_inb (y : Fin 2) (p : Fin 4) : ∀ a, (![2048 * y.val, 1024 * p.val] : Fin 2 → Nat) a + S2048x1024.size a ≤ S4096x4096.size a := by
  revert y p; decide

/-- The output, whole. -/
abbrev oM : Memref sig .tc .hbm S4096x4096 .bf16 := Memref.whole main_v6
/-- Its block of row half `y` and column block `p`, -/
abbrev oR (y : Fin 2) (p : Fin 4) : Rect S4096x4096 := Rect.unit (s := S4096x4096) ![2048 * y.val, 1024 * p.val] S2048x1024.size (ob_inb y p)
abbrev oblk (y : Fin 2) (p : Fin 4) : Memref sig .tc .hbm S2048x1024 .bf16 := oM.slice (oR y p) (fun _ => rfl)
/-- The row half a device computes. -/
def yy (c : Dev nD) : Fin 2 := ⟨c.val % 2, Nat.mod_lt _ (by decide)⟩
/-- The block `p` device `c` computes. -/
abbrev ob (c : Dev nD) (p : Fin 4) : Memref sig .tc .hbm S2048x1024 .bf16 := oblk (yy c) p

/-- A block at offsets equal to it is it. -/
theorem oblk_at (y : Fin 2) (p : Fin 4) (off : Fin 2 → Nat) (h : off = ![2048 * y.val, 1024 * p.val])
    (inb : ∀ a, off a + S2048x1024.size a ≤ S4096x4096.size a) (h1) :
    (oM.slice (Rect.unit (s := S4096x4096) off S2048x1024.size inb) h1 : Memref sig .tc .hbm S2048x1024 .bf16) = oblk y p := by
  subst h; rfl

/-! ## The semaphores -/

theorem sem_inb (p : Fin 4) : ∀ a, (![p.val] : Fin 1 → Nat) a + S1.size a ≤ S4.size a := by revert p; decide

/-- Semaphore `p` of an array of four. -/
abbrev semAt (A : DmaSems sig S4) (p : Fin 4) : DmaSem sig :=
  ((A.slice (Rect.unit (s := S4) ![p.val] S1.size (sem_inb p))).squeeze S_ squeezes_S1_S_).sem

abbrev xsS (p : Fin 4) : DmaSem sig := semAt cc0_scratch3 p
abbrev xrS (p : Fin 4) : DmaSem sig := semAt cc0_scratch4 p
abbrev ysS (p : Fin 4) : DmaSem sig := semAt cc0_scratch5 p
abbrev yrS (p : Fin 4) : DmaSem sig := semAt cc0_scratch6 p
abbrev owS (p : Fin 4) : DmaSem sig := semAt cc0_scratch7 p
/-- The barrier semaphore, as the kernel names it. -/
abbrev barS : Sem sig := sig.barrier 0 rfl

/-- What a semaphore is for. -/
inductive Role
  | bar
  | xs (p : Fin 4)
  | xr (p : Fin 4)
  | ys (p : Fin 4)
  | yr (p : Fin 4)
  | ow (p : Fin 4)
deriving DecidableEq

/-- A pool index's role: four staging semaphores, then five arrays of four. -/
def dmaRole (n : Nat) : Option Role :=
  if n < 4 then none
  else if n < 8 then some (.xs ⟨n % 4, Nat.mod_lt _ (by decide)⟩)
  else if n < 12 then some (.xr ⟨n % 4, Nat.mod_lt _ (by decide)⟩)
  else if n < 16 then some (.ys ⟨n % 4, Nat.mod_lt _ (by decide)⟩)
  else if n < 20 then some (.yr ⟨n % 4, Nat.mod_lt _ (by decide)⟩)
  else some (.ow ⟨n % 4, Nat.mod_lt _ (by decide)⟩)

def role : SemLoc sig → Option Role
  | .reg _ => some .bar
  | .dma s => dmaRole s.val

theorem role_bar (s : Sem sig) : role (.reg s) = some .bar := rfl
theorem role_xs (p : Fin 4) : role (.dma (xsS p)) = some (.xs p) := by revert p; decide
theorem role_xr (p : Fin 4) : role (.dma (xrS p)) = some (.xr p) := by revert p; decide
theorem role_ys (p : Fin 4) : role (.dma (ysS p)) = some (.ys p) := by revert p; decide
theorem role_yr (p : Fin 4) : role (.dma (yrS p)) = some (.yr p) := by revert p; decide
theorem role_ow (p : Fin 4) : role (.dma (owS p)) = some (.ow p) := by revert p; decide

/-- The units a copy of 2048 × 1024 bf16 elements credits. -/
def N : ℕ := (slot pM 0).view.dmaCredit
theorem N_pos : 0 < N := View.dmaCredit_pos _ (by decide)
theorem N_pM (p : Fin 4) (s : DmaSem sig) : (slot pM p).view.amount (.dma s) = N := rfl
theorem N_xM (p : Fin 4) (s : DmaSem sig) : (slot xM p).view.amount (.dma s) = N := rfl
theorem N_oblk (y : Fin 2) (p : Fin 4) (s : DmaSem sig) : (oblk y p).view.amount (.dma s) = N := rfl
theorem N_pM' (p : Fin 4) : (slot pM p).view.dmaCredit = N := rfl
theorem N_xM' (p : Fin 4) : (slot xM p).view.dmaCredit = N := rfl
theorem N_oblk' (y : Fin 2) (p : Fin 4) : (oblk y p).view.dmaCredit = N := rfl

end Cert.KernelIdeal.Swap
-- ==== Proof.Memory.lean ====
/-
# Holding a slot or a block, and reading and writing a slot

A slot is held as the memref the transfers name (2048 × 1024 elements). The kernel's loads and stores go through the
rectangle of the four-slot buffer (1 × 2048 × 1024): the same elements, re-indexed.
-/
module

public import proofs.«01_k».proof.Proof.Geometry

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The ghost state: the pipeline library's copy and this protocol's -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

theorem fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-! ## Contents of one slot -/

abbrev Blk (F : FTy → Type) : Type := S2048x1024.Idx → Elt F .bf16

/-- A block's contents as the 1 × 2048 × 1024 rectangle holds them. -/
def box (X : Blk F) : S1x2048x1024.Idx → Elt F .bf16 := shapeCast S1x2048x1024 X shapeCasts_S2048x1024_S1x2048x1024
/-- And back. -/
def unbox (w : S1x2048x1024.Idx → Elt F .bf16) : Blk F := shapeCast S2048x1024 w shapeCasts_S1x2048x1024_S2048x1024

theorem unbox_box (X : Blk F) : unbox (box X) = X := by
  funext j; show X _ = X j; congr 1
  exact (Shape.reshapeEquiv_reshapeEquiv _ _ j).trans (Shape.reshapeEquiv_self _ j)
theorem box_unbox (w : S1x2048x1024.Idx → Elt F .bf16) : box (unbox w) = w := by
  funext j; show w _ = w j; congr 1
  exact (Shape.reshapeEquiv_reshapeEquiv _ _ j).trans (Shape.reshapeEquiv_self _ j)

/-- The kernel's device `c` holds a memref's elements, at some contents. -/
abbrev anyAt (c : Dev nD) {sp : Space} {s : Shape} {e : EltTy} (m : Memref sig .tc sp s e) : sProp 𝕄 :=
  iprop(∃ X : s.Idx → Elt F e, owns (c : Thread nD τ) m fullShare X)

theorem slot_set (M : Memref sig .tc .vmem S4x2048x1024 .bf16) (p : Fin 4) :
    (slot M p).view.set = (M.access (slotR p)).set :=
  View.set_reshape (v := M.view.slice (slotR p)) squeezes_S1x2048x1024_S2048x1024.numel_eq

theorem slot_read (M : Memref sig .tc .vmem S4x2048x1024 .bf16) (p : Fin 4) (f : M.view.ty.Contents (Elt F)) :
    (slot M p).view.read (Elt F) f = unbox ((M.access (slotR p)).read (Elt F) f) := rfl

theorem access_read (M : Memref sig .tc .vmem S4x2048x1024 .bf16) (p : Fin 4) (f : M.view.ty.Contents (Elt F)) :
    (M.access (slotR p)).read (Elt F) f = box ((slot M p).view.read (Elt F) f) := by
  rw [slot_read, box_unbox]

section Rules

variable {Λ : Labels} {defs : Defs nD τ sig (Elt F) Λ} (𝒱 : Variants) (c : Dev nD) (bd : Option 𝒱.V) {E : Set ℕ}
variable {Q : PUnit.{1} → sProp (MT nD τ sig Unit (Elt F) ℕ UU ℕ)}

/-- A load of slot `p` through its rectangle. -/
theorem load_slot (M : Memref sig .tc .vmem S4x2048x1024 .bf16) (p : Fin 4) {hl} {q : PosShare TreeShare} {X : Blk F}
    {k : (S1x2048x1024.Idx → Elt F .bf16) → Prog (TpuEff nD τ sig (Elt F) Λ .tc) PUnit} :
    owns (c : Thread nD τ) (slot M p) q X
      ⊢ iprop((owns (c : Thread nD τ) (slot M p) q X -∗ wp Idealize.ShloMosaic.frame (wpE defs 𝒱 (c : Thread nD τ) bd) E (k (box X)) Q)
        -∗ wp Idealize.ShloMosaic.frame (wpE defs 𝒱 (c : Thread nD τ) bd) E (.op (.load M (slotR p).toLoadRect hl) k) Q) := by
  unfold owns
  iintro ⟨%f, %hf, H⟩ Hk
  iapply (wp_load_rect 𝒱 (c : Thread nD τ) bd E (m := M) (r := slotR p) (hl := hl) (k := k)
    (S := (slot M p).view.set) (q := q) (f := f) (by rw [slot_set])) $$ H
  iintro H
  rw [access_read, hf]
  iapply Hk
  iexists f
  isplitr
  · ipureintro; exact hf
  · iexact H

/-- A store to slot `p` through its rectangle. -/
theorem store_slot (M : Memref sig .tc .vmem S4x2048x1024 .bf16) (p : Fin 4) {w hx hm} {X : Blk F}
    {k : PUnit → Prog (TpuEff nD τ sig (Elt F) Λ .tc) PUnit} :
    owns (c : Thread nD τ) (slot M p) fullShare X
      ⊢ iprop((owns (c : Thread nD τ) (slot M p) fullShare (unbox w) -∗ wp Idealize.ShloMosaic.frame (wpE defs 𝒱 (c : Thread nD τ) bd) E (k ⟨⟩) Q)
        -∗ wp Idealize.ShloMosaic.frame (wpE defs 𝒱 (c : Thread nD τ) bd) E (.op (.store M (slotR p) w Finset.univ hx hm) k) Q) := by
  unfold owns
  iintro ⟨%f, %hf, H⟩ Hk
  iapply (wp_store 𝒱 (c : Thread nD τ) bd E (m := M) (r := slotR p) (w := w) (Mk := Finset.univ) (hx := hx) (hm := hm) (k := k)
    (S := (slot M p).view.set) (f := f) (by rw [slot_set, View.setOn_univ])) $$ H
  iintro H
  iapply Hk
  iexists (M.access (slotR p)).write (Elt F) f w Finset.univ
  isplitr
  · ipureintro
    rw [slot_read, View.read_write_univ]
  · iexact H

end Rules

end Cert.KernelIdeal.Swap
-- ==== Proof.Protocol.lean ====
/-
# The protocol between the devices

Per device `c`, five families of four transfer semaphores and the barrier. Every semaphore sees one round.

* barrier of `c`: waited for 2 units once, before the first product. `px c` pays one unit and with it lends `c` its four
  arrival slots, `py c` the other and with it lends `c` the four output blocks, in `py c`'s memory, that `c` computes.
* `xs p`, `xr p`: the copy of `c`'s partial product `p` into `px c`'s arrival slot `p` credits `xs p` of `c`, handing back
  the slot it was read from, and `xr p` of `px c`, handing over the arrival slot at `c`'s partial product.
* `ys p`, `yr p`: the copy of the reduced block `p` into `py c`'s output credits `ys p` of `c`, handing back one half of the
  share the slot was lent at, and `yr p` of `py c`, handing over the output block at `c`'s reduced block.
* `ow p`: the copy of the reduced block `p` into `c`'s own output hands over that block and the slot's other half.

While a device waits for an arrival it owes only later ones: the barrier is below the `xr`, `xr p` below `xr (p + 1)`, and
these below the `yr`.
-/
module

public import proofs.«01_k».proof.Proof.Memory

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cells -/

abbrev barC (c : Dev nD) : GSem nD τ sig := ((c : Thread nD τ), .reg barS)
abbrev xsC (c : Dev nD) (p : Fin 4) : GSem nD τ sig := ((c : Thread nD τ), .dma (xsS p))
abbrev xrC (c : Dev nD) (p : Fin 4) : GSem nD τ sig := ((c : Thread nD τ), .dma (xrS p))
abbrev ysC (c : Dev nD) (p : Fin 4) : GSem nD τ sig := ((c : Thread nD τ), .dma (ysS p))
abbrev yrC (c : Dev nD) (p : Fin 4) : GSem nD τ sig := ((c : Thread nD τ), .dma (yrS p))
abbrev owC (c : Dev nD) (p : Fin 4) : GSem nD τ sig := ((c : Thread nD τ), .dma (owS p))

/-! ## What is reduced -/

/-- The sum of two partial products, as the kernel rounds it. -/
def red (X Y : Blk F) : Blk F :=
  truncf .bf16 (addf (extf .f32 (X : FVec F S2048x1024 .bf16) bitsLt_bf16_f32) (extf .f32 (Y : FVec F S2048x1024 .bf16) bitsLt_bf16_f32) : FVec F S2048x1024 .f32) bitsLt_bf16_f32

variable (P : Dev nD → Fin 4 → Blk F)

/-- Device `c`'s reduced block `p`: its partial product plus its neighbour's. -/
def R (c : Dev nD) (p : Fin 4) : Blk F := red (P c p) (P (px c) p)

/-! ## Payloads -/

def barX (c : Dev nD) : sProp 𝕄 :=
  bigSep Finset.univ fun p : Fin 4 => iprop(anyAt (F := F) (px c) (slot xM p) ∗ reached ER (xrC (px c) p) 0)
def barY (c : Dev nD) : sProp 𝕄 :=
  bigSep Finset.univ fun p : Fin 4 => iprop(anyAt (F := F) (py c) (ob c p) ∗ reached ER (yrC (py c) p) 0)
def xsPay (c : Dev nD) (p : Fin 4) : sProp 𝕄 := owns (c : Thread nD τ) (slot pM p) fullShare (P c p)
def xrPay (c : Dev nD) (p : Fin 4) : sProp 𝕄 := owns (c : Thread nD τ) (slot xM p) fullShare (P (px c) p)
def ysPay (c : Dev nD) (p : Fin 4) : sProp 𝕄 := owns (c : Thread nD τ) (slot pM p) fullShare.left (R P c p)
def yrPay (c : Dev nD) (p : Fin 4) : sProp 𝕄 := owns (c : Thread nD τ) (ob (py c) p) fullShare (R P (py c) p)
def owPay (c : Dev nD) (p : Fin 4) : sProp 𝕄 :=
  iprop(owns (c : Thread nD τ) (ob c p) fullShare (R P c p) ∗ owns (c : Thread nD τ) (slot pM p) fullShare.right (R P c p))

def payOf (c : Dev nD) (d : Bool) : Option Role → sProp 𝕄
  | none => iprop(emp)
  | some .bar => if d then barY c else barX c
  | some (.xs p) => xsPay P c p
  | some (.xr p) => xrPay P c p
  | some (.ys p) => ysPay P c p
  | some (.yr p) => yrPay P c p
  | some (.ow p) => owPay P c p

def dutiesOf : Option Role → Finset Bool
  | none => ∅
  | some .bar => {false, true}
  | some _ => {false}

def amountOf : Option Role → ℕ
  | none => N
  | some .bar => 1
  | some (.xs _) => N
  | some (.xr _) => N
  | some (.ys _) => N
  | some (.yr _) => N
  | some (.ow _) => N

theorem amountOf_pos (r : Option Role) : 0 < amountOf r := by
  rcases r with _ | ⟨_ | _ | _ | _ | _ | _⟩ <;> first | exact Nat.one_pos | exact N_pos

def Rd : Rounds.Schedule (GSem nD τ sig) Bool 𝕄 where
  duties g r := if r = 0 ∧ g.1.2 = .tc then dutiesOf (role g.2) else ∅
  unitless _ := False
  amount g _ _ := amountOf (role g.2)
  payload g _ d := payOf P g.1.1 d (role g.2)
  amount_pos g _ _ _ := amountOf_pos _

instance Rd_storable (g : GSem nD τ sig) (r : ℕ) (d : Bool) : BI.Storable (upEmb : UEmb _ 𝕄) ((Rd P).payload g r d) := by
  show BI.Storable upEmb (payOf P g.1.1 d (role g.2))
  unfold payOf barX barY xsPay xrPay ysPay yrPay owPay
  (repeat' split) <;> infer_instance

section Tables

variable (c : Dev nD) (p : Fin 4)

theorem duties_bar : (Rd P).duties (barC c) 0 = {false, true} := by dsimp only [Rd]; rw [if_pos ⟨rfl, rfl⟩]; rfl
theorem duties_xs : (Rd P).duties (xsC c p) 0 = {false} := by dsimp only [Rd]; rw [if_pos ⟨rfl, rfl⟩, role_xs]; rfl
theorem duties_xr : (Rd P).duties (xrC c p) 0 = {false} := by dsimp only [Rd]; rw [if_pos ⟨rfl, rfl⟩, role_xr]; rfl
theorem duties_ys : (Rd P).duties (ysC c p) 0 = {false} := by dsimp only [Rd]; rw [if_pos ⟨rfl, rfl⟩, role_ys]; rfl
theorem duties_yr : (Rd P).duties (yrC c p) 0 = {false} := by dsimp only [Rd]; rw [if_pos ⟨rfl, rfl⟩, role_yr]; rfl
theorem duties_ow : (Rd P).duties (owC c p) 0 = {false} := by dsimp only [Rd]; rw [if_pos ⟨rfl, rfl⟩, role_ow]; rfl
theorem duties_later (g : GSem nD τ sig) : ∀ r, 1 ≤ r → (Rd P).duties g r = ∅ :=
  fun r hr => by dsimp only [Rd]; rw [if_neg (fun h => by omega)]

theorem amount_bar (d : Bool) : (Rd P).amount (barC c) 0 d = 1 := rfl
theorem amount_xs (d : Bool) : (Rd P).amount (xsC c p) 0 d = N := by dsimp only [Rd]; rw [role_xs]; rfl
theorem amount_xr (d : Bool) : (Rd P).amount (xrC c p) 0 d = N := by dsimp only [Rd]; rw [role_xr]; rfl
theorem amount_ys (d : Bool) : (Rd P).amount (ysC c p) 0 d = N := by dsimp only [Rd]; rw [role_ys]; rfl
theorem amount_yr (d : Bool) : (Rd P).amount (yrC c p) 0 d = N := by dsimp only [Rd]; rw [role_yr]; rfl
theorem amount_ow (d : Bool) : (Rd P).amount (owC c p) 0 d = N := by dsimp only [Rd]; rw [role_ow]; rfl

theorem expect_bar : (Rd P).expect (barC c) 0 = 2 := by
  unfold Schedule.expect Schedule.amountOf; rw [duties_bar]; rfl
theorem expect_xs : (Rd P).expect (xsC c p) 0 = N := by
  unfold Schedule.expect Schedule.amountOf; rw [duties_xs, Finset.sum_singleton, amount_xs]
theorem expect_xr : (Rd P).expect (xrC c p) 0 = N := by
  unfold Schedule.expect Schedule.amountOf; rw [duties_xr, Finset.sum_singleton, amount_xr]
theorem expect_ys : (Rd P).expect (ysC c p) 0 = N := by
  unfold Schedule.expect Schedule.amountOf; rw [duties_ys, Finset.sum_singleton, amount_ys]
theorem expect_yr : (Rd P).expect (yrC c p) 0 = N := by
  unfold Schedule.expect Schedule.amountOf; rw [duties_yr, Finset.sum_singleton, amount_yr]
theorem expect_ow : (Rd P).expect (owC c p) 0 = N := by
  unfold Schedule.expect Schedule.amountOf; rw [duties_ow, Finset.sum_singleton, amount_ow]

theorem payload_barX : (Rd P).payload (barC c) 0 false = barX c := rfl
theorem payload_barY : (Rd P).payload (barC c) 0 true = barY c := rfl
theorem payload_xs (d : Bool) : (Rd P).payload (xsC c p) 0 d = xsPay P c p := by dsimp only [Rd]; rw [role_xs]; rfl
theorem payload_xr (d : Bool) : (Rd P).payload (xrC c p) 0 d = xrPay P c p := by dsimp only [Rd]; rw [role_xr]; rfl
theorem payload_ys (d : Bool) : (Rd P).payload (ysC c p) 0 d = ysPay P c p := by dsimp only [Rd]; rw [role_ys]; rfl
theorem payload_yr (d : Bool) : (Rd P).payload (yrC c p) 0 d = yrPay P c p := by dsimp only [Rd]; rw [role_yr]; rfl
theorem payload_ow (d : Bool) : (Rd P).payload (owC c p) 0 d = owPay P c p := by dsimp only [Rd]; rw [role_ow]; rfl

theorem rest_bar : bigSep ((Rd P).duties (barC c) 0 \ ∅) (fun d => (Rd P).payload (barC c) 0 d) = iprop(barX c ∗ barY c) := by
  rw [Finset.sdiff_empty, duties_bar, bigSep_insert (by decide), bigSep_singleton, payload_barX, payload_barY]; rfl
theorem rest_xs : bigSep ((Rd P).duties (xsC c p) 0 \ ∅) (fun d => (Rd P).payload (xsC c p) 0 d) = xsPay P c p := by
  rw [Finset.sdiff_empty, duties_xs, bigSep_singleton, payload_xs]
theorem rest_xr : bigSep ((Rd P).duties (xrC c p) 0 \ ∅) (fun d => (Rd P).payload (xrC c p) 0 d) = xrPay P c p := by
  rw [Finset.sdiff_empty, duties_xr, bigSep_singleton, payload_xr]
theorem rest_ys : bigSep ((Rd P).duties (ysC c p) 0 \ ∅) (fun d => (Rd P).payload (ysC c p) 0 d) = ysPay P c p := by
  rw [Finset.sdiff_empty, duties_ys, bigSep_singleton, payload_ys]
theorem rest_yr : bigSep ((Rd P).duties (yrC c p) 0 \ ∅) (fun d => (Rd P).payload (yrC c p) 0 d) = yrPay P c p := by
  rw [Finset.sdiff_empty, duties_yr, bigSep_singleton, payload_yr]
theorem rest_ow : bigSep ((Rd P).duties (owC c p) 0 \ ∅) (fun d => (Rd P).payload (owC c p) 0 d) = owPay P c p := by
  rw [Finset.sdiff_empty, duties_ow, bigSep_singleton, payload_ow]

end Tables

/-! ## Levels and what is owed -/

def L (g : GSem nD τ sig) : Finset Unit := if g.1.2 = .tc then {()} else ∅

def levOf : Option Role → ℕ
  | some .bar => 1
  | some (.xr p) => 2 + p.val
  | some (.yr p) => 10 + p.val
  | _ => 0
def lv (g : GSem nD τ sig) (_ : Unit) : ℕ := levOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := rfl
theorem lv_xs (c : Dev nD) (p : Fin 4) (u : Unit) : lv (xsC c p) u = 0 := by unfold lv; rw [role_xs]; rfl
theorem lv_xr (c : Dev nD) (p : Fin 4) (u : Unit) : lv (xrC c p) u = 2 + p.val := by unfold lv; rw [role_xr]; rfl
theorem lv_yr (c : Dev nD) (p : Fin 4) (u : Unit) : lv (yrC c p) u = 10 + p.val := by unfold lv; rw [role_yr]; rfl

/-- What device `c` still owes once it has sent its first `a` partial products and its first `b` reduced blocks. -/
def owe (c : Dev nD) (a b : ℕ) : CellTallies nD τ sig Unit :=
  (∑ q ∈ (Finset.univ : Finset (Fin 4)).filter (fun q => a ≤ q.val), tallyAt (xrC (px c) q) () N)
    + ∑ q ∈ (Finset.univ : Finset (Fin 4)).filter (fun q => b ≤ q.val), tallyAt (yrC (py c) q) () N

theorem filter_step (p : Fin 4) :
    (Finset.univ : Finset (Fin 4)).filter (fun q => p.val ≤ q.val) = insert p (Finset.univ.filter (fun q => p.val + 1 ≤ q.val)) := by
  revert p; decide

theorem owe_x (c : Dev nD) (p : Fin 4) (b : ℕ) : owe c p.val b = owe c (p.val + 1) b + tallyAt (xrC (px c) p) () N := by
  unfold owe
  rw [filter_step p, Finset.sum_insert (by simp), add_assoc, add_comm]
theorem owe_y (c : Dev nD) (p : Fin 4) (a : ℕ) : owe c a p.val = owe c a (p.val + 1) + tallyAt (yrC (py c) p) () N := by
  unfold owe
  rw [filter_step p, Finset.sum_insert (by simp), add_comm (tallyAt (yrC (py c) p) () N), ← add_assoc]
theorem owe_done (c : Dev nD) : owe c 4 4 = 0 := by
  unfold owe
  rw [show (Finset.univ : Finset (Fin 4)).filter (fun q => 4 ≤ q.val) = ∅ from by decide, Finset.sum_empty, Finset.sum_empty, add_zero]

theorem owe_pos (c : Dev nD) (a b : ℕ) (g : GSem nD τ sig) (u : Unit) (h : 0 < owe c a b g u) :
    (∃ q : Fin 4, a ≤ q.val ∧ g = xrC (px c) q) ∨ ∃ q : Fin 4, b ≤ q.val ∧ g = yrC (py c) q := by
  have h' : 0 < (∑ q ∈ (Finset.univ : Finset (Fin 4)).filter (fun q => a ≤ q.val), tallyAt (xrC (px c) q) () N g u)
      + ∑ q ∈ (Finset.univ : Finset (Fin 4)).filter (fun q => b ≤ q.val), tallyAt (yrC (py c) q) () N g u := by
    have e : owe c a b g u = (∑ q ∈ (Finset.univ : Finset (Fin 4)).filter (fun q => a ≤ q.val), tallyAt (xrC (px c) q) () N g u)
        + ∑ q ∈ (Finset.univ : Finset (Fin 4)).filter (fun q => b ≤ q.val), tallyAt (yrC (py c) q) () N g u := by
      unfold owe; simp [Finset.sum_apply]
    rwa [e] at h
  rcases Nat.add_pos_iff_pos_or_pos.mp h' with h | h
  · obtain ⟨q, hq, hp⟩ := Finset.sum_pos_iff.mp h
    left; refine ⟨q, (Finset.mem_filter.mp hq).2, ?_⟩
    rw [tallyAt_apply] at hp
    by_contra hg
    rw [if_neg (fun h => hg h.1)] at hp; exact absurd hp (Nat.lt_irrefl 0)
  · obtain ⟨q, hq, hp⟩ := Finset.sum_pos_iff.mp h
    right; refine ⟨q, (Finset.mem_filter.mp hq).2, ?_⟩
    rw [tallyAt_apply] at hp
    by_contra hg
    rw [if_neg (fun h => hg h.1)] at hp; exact absurd hp (Nat.lt_irrefl 0)

/-- A wait on a cell no higher than `b`, owing only arrivals above it. -/
theorem mayWait_owe (c : Dev nD) (sm : SemLoc sig) (a b k : ℕ) (h₁ : lv ((c : Thread nD τ), sm) () ≤ k) (ha : k < 2 + a) (hk : k < 10) :
    (levAts L lv : sProp 𝕄) ⊢ MayWait (c : Thread nD τ) sm () (owe c a b) :=
  MayOwe.of_cut (L := L) (lev := lv) k (fun q hq => by rw [Finset.mem_singleton.mp hq, L_tc]; exact Finset.mem_singleton_self _)
    (fun g u hg => by
      rcases owe_pos c a b g u hg with ⟨q, -, rfl⟩ | ⟨q, -, rfl⟩ <;> rw [L_tc] <;> exact Finset.mem_singleton_self _)
    (fun q hq => by rw [Finset.mem_singleton.mp hq]; exact h₁)
    (fun g u hg => by
      rcases owe_pos c a b g u hg with ⟨q, hq, rfl⟩ | ⟨q, hq, rfl⟩
      · rw [lv_xr]; omega
      · rw [lv_yr]; omega)

/-- What a device owes at launch: every arrival, and a unit to each neighbour's barrier. -/
def owe0 (c : Dev nD) : CellTallies nD τ sig Unit :=
  (owe c 0 0 + tallyAt (barC (py c)) () 1) + tallyAt (barC (px c)) () 1

theorem owe0_pos (c : Dev nD) (g : GSem nD τ sig) (u : Unit) (h : 0 < owe0 c g u) :
    g.1.2 = .tc ∧ 0 < lv g u := by
  have h' : 0 < owe c 0 0 g u + tallyAt (barC (py c)) () 1 g u + tallyAt (barC (px c)) () 1 g u := h
  have hb : ∀ d : Dev nD, 0 < tallyAt (barC d) () 1 g u → g.1.2 = .tc ∧ 0 < lv g u := by
    intro d hd
    rw [tallyAt_apply] at hd
    by_cases hg : g = barC d ∧ u = ()
    · obtain ⟨rfl, -⟩ := hg; exact ⟨rfl, Nat.one_pos⟩
    · rw [if_neg hg] at hd; exact absurd hd (Nat.lt_irrefl 0)
  rcases Nat.add_pos_iff_pos_or_pos.mp h' with h | h
  · rcases Nat.add_pos_iff_pos_or_pos.mp h with h | h
    · rcases owe_pos c 0 0 g u h with ⟨q, -, rfl⟩ | ⟨q, -, rfl⟩
      · exact ⟨rfl, by rw [lv_xr]; omega⟩
      · exact ⟨rfl, by rw [lv_yr]; omega⟩
    · exact hb _ h
  · exact hb _ h

theorem owe_pos_lv (c : Dev nD) (a b : ℕ) (g : GSem nD τ sig) (u : Unit) (h : 0 < owe c a b g u) :
    g.1.2 = .tc ∧ 0 < lv g u := by
  rcases owe_pos c a b g u h with ⟨q, -, rfl⟩ | ⟨q, -, rfl⟩
  · exact ⟨rfl, by rw [lv_xr]; omega⟩
  · exact ⟨rfl, by rw [lv_yr]; omega⟩

end Cert.KernelIdeal.Swap
-- ==== Proof.Steps.lean ====
/-
# One communication step at a time

Each rule is stated for any slot `p` of any device `c`: sending a partial product across, waiting for a counter and closing
it, sending a reduced block, copying it home, and the opening barrier.
-/
module

public import proofs.«01_k».proof.Proof.Protocol

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Every cell's invariant -/

/-- The kernel's twenty transfer semaphores, in pool order. -/
def osem (k : Fin 20) : SemLoc sig := .dma ⟨4 + k.val, by have := k.isLt; show 4 + k.val < 24; omega⟩

theorem osem_inj : Function.Injective osem := by
  intro a b h
  have h' := congrArg (fun s : SemLoc sig => match s with | .dma s => s.val | .reg s => 0) h
  dsimp only [osem] at h'
  exact Fin.ext (by omega)

def barCells : Finset (GSem nD τ sig) := Finset.univ.map ⟨fun c : Dev nD => barC c, fun a b h => by
  have := congrArg (fun g : GSem nD τ sig => g.1.1) h; exact this⟩
def dmaCells : Finset (GSem nD τ sig) := Finset.univ.map ⟨fun x : Dev nD × Fin 20 => (((x.1 : Dev nD) : Thread nD τ), osem x.2), fun a b h => by
  have h1 := congrArg (fun g : GSem nD τ sig => g.1.1) h
  have h2 := congrArg (fun g : GSem nD τ sig => g.2) h
  exact Prod.ext h1 (osem_inj h2)⟩

theorem bar_mem (c : Dev nD) : barC c ∈ barCells ∪ dmaCells :=
  Finset.mem_union_left _ (Finset.mem_map.mpr ⟨c, Finset.mem_univ _, rfl⟩)
theorem dma_mem (c : Dev nD) (k : Fin 20) : ((c : Thread nD τ), osem k) ∈ barCells ∪ dmaCells :=
  Finset.mem_union_right _ (Finset.mem_map.mpr ⟨(c, k), Finset.mem_univ _, rfl⟩)

/-- Semaphore `p` of array `i`, in pool order. -/
def ix (i : Fin 5) (p : Fin 4) : Fin 20 := ⟨4 * i.val + p.val, by have := i.isLt; have := p.isLt; omega⟩

theorem osem_xs (p : Fin 4) : osem (ix 0 p) = .dma (xsS p) := by revert p; decide
theorem osem_xr (p : Fin 4) : osem (ix 1 p) = .dma (xrS p) := by revert p; decide
theorem osem_ys (p : Fin 4) : osem (ix 2 p) = .dma (ysS p) := by revert p; decide
theorem osem_yr (p : Fin 4) : osem (ix 3 p) = .dma (yrS p) := by revert p; decide
theorem osem_ow (p : Fin 4) : osem (ix 4 p) = .dma (owS p) := by revert p; decide

theorem xs_mem (c : Dev nD) (p : Fin 4) : xsC c p ∈ barCells ∪ dmaCells := by unfold xsC; rw [← osem_xs]; exact dma_mem _ _
theorem xr_mem (c : Dev nD) (p : Fin 4) : xrC c p ∈ barCells ∪ dmaCells := by unfold xrC; rw [← osem_xr]; exact dma_mem _ _
theorem ys_mem (c : Dev nD) (p : Fin 4) : ysC c p ∈ barCells ∪ dmaCells := by unfold ysC; rw [← osem_ys]; exact dma_mem _ _
theorem yr_mem (c : Dev nD) (p : Fin 4) : yrC c p ∈ barCells ∪ dmaCells := by unfold yrC; rw [← osem_yr]; exact dma_mem _ _
theorem ow_mem (c : Dev nD) (p : Fin 4) : owC c p ∈ barCells ∪ dmaCells := by unfold owC; rw [← osem_ow]; exact dma_mem _ _

variable (P : Dev nD → Fin 4 → Blk F) (K : GSem nD τ sig → ℕ)

/-- The invariants of every cell of the protocol, under some names. -/
def Inv : sProp 𝕄 := bigSep (barCells ∪ dmaCells) fun g => cellInv ER (Rd P) (K g) g

instance Inv_persistent : Persistent (Inv P K) := by unfold Inv; infer_instance

theorem Inv_at {g : GSem nD τ sig} (h : g ∈ barCells ∪ dmaCells) : Inv P K ⊢ cellInv ER (Rd P) (K g) g :=
  bigSep_elim h

/-- What the device owes, whatever it has waited for. -/
abbrev ow (c : Dev nD) (O : CellTallies nD τ sig Unit) : sProp 𝕄 := iprop(∃ W, owes (c : Thread nD τ) O W)

abbrev 𝒱₀ : Variants := Variants.none

section Rules

variable {Λ : Labels} {defs : Defs nD τ sig (Elt F) Λ} (c : Dev nD) (p : Fin 4)
variable {Q : PUnit.{1} → sProp (MT nD τ sig Unit (Elt F) ℕ UU ℕ)}

/-- Sending the partial product `p` across the first axis. -/
theorem send_x (a : ℕ) {src dst : Memref sig .tc .vmem S2048x1024 .bf16} (hsrc' : src = slot pM p) (hdst' : dst = slot xM p) {dev : Dev nD} (hdev : dev = px c)
    {sS sR : DmaSem sig} (hsS : sS = xsS p) (hsR : sR = xrS p) {b : ℕ} {hsc hsrc hdst hsem}
    {k : PUnit → Prog (TpuEff nD τ sig (Elt F) Λ .tc) PUnit} :
    iprop(Inv P K ∗ owns (c : Thread nD τ) (slot pM p) fullShare (P c p) ∗ anyAt (F := F) (px c) (slot xM p) ∗ ow (F := F) c (owe c p.val b)
        ∗ dutyTok ER (xsC c p) 0 false ∗ reached ER (xsC c p) 0 ∗ dutyTok ER (xrC (px c) p) 0 false ∗ reached ER (xrC (px c) p) 0)
      ⊢ iprop((cred (tallyAt (xsC c p) () N) ∗ ow (F := F) c (owe c (p.val + 1) b) -∗ wp Idealize.ShloMosaic.frame (wpE defs 𝒱₀ (c : Thread nD τ) none) Set.univ (k ⟨⟩) Q)
        -∗ wp Idealize.ShloMosaic.frame (wpE defs 𝒱₀ (c : Thread nD τ) none) Set.univ (.op (.enqueueDma src (.remote (Dev.tc dev) dst (.dma sS) hsc) (.dma sR) hsrc hdst hsem) k) Q) := by
  subst hsrc' hdst' hdev hsS hsR
  unfold anyAt owns
  iintro ⟨#HI, ⟨%f, %hf, Hs⟩, ⟨%X, %g, %hg, Hd⟩, ⟨%W, HO⟩, Ht1, #Hr1, Ht2, #Hr2⟩ Hk
  iapply (Rounds.wp_send_pointsTo 𝒱₀ ER (Rd P) (c : Thread nD τ) none (c' := (px c : Thread nD τ)) (src := slot pM p) (dst := slot xM p)
      (sS := .dma (xsS p)) (sem := .dma (xrS p)) (q := fullShare) (fs := f) (κ₁ := K (xsC c p)) (κ₂ := K (xrC (px c) p))
      (r₁ := 0) (r₂ := 0) (d₁ := false) (d₂ := false) (fd := g)
      (by rw [duties_xs]; exact Finset.mem_singleton_self _) (by rw [duties_xr]; exact Finset.mem_singleton_self _)
      () () N (N_xM p _) (amount_xs P c p false) (amount_xr P (px c) p false) (owe c (p.val + 1) b) (owe_x c p b) (W := W)
      (by rw [payload_xs]; unfold xsPay owns
          iintro H; iexists f; isplitr; · ipureintro; exact hf
          iexact H)
      (by rw [payload_xr]; unfold xrPay owns; rw [px_px]
          iintro H; iexists _; isplitr; swap; · iexact H
          ipureintro; rw [View.read_write_univ]; exact hf)) $$ [Hs Hd HO Ht1 Ht2]
  · isplitr; · iapply (Inv_at P K (xs_mem c p)); iexact HI
    isplitr; · iapply (Inv_at P K (xr_mem (px c) p)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Sending the reduced block `p` across the second axis, reading the slot at half its share. -/
theorem send_y (a : ℕ) {src : Memref sig .tc .vmem S2048x1024 .bf16} (hsrc' : src = slot pM p) {dst : Memref sig .tc .hbm S2048x1024 .bf16} (hdst' : dst = ob c p) {dev : Dev nD} (hdev : dev = py c)
    {sS sR : DmaSem sig} (hsS : sS = ysS p) (hsR : sR = yrS p) {hsc hsrc hdst hsem}
    {k : PUnit → Prog (TpuEff nD τ sig (Elt F) Λ .tc) PUnit} :
    iprop(Inv P K ∗ owns (c : Thread nD τ) (slot pM p) fullShare.left (R P c p) ∗ anyAt (F := F) (py c) (ob c p) ∗ ow (F := F) c (owe c a p.val)
        ∗ dutyTok ER (ysC c p) 0 false ∗ reached ER (ysC c p) 0 ∗ dutyTok ER (yrC (py c) p) 0 false ∗ reached ER (yrC (py c) p) 0)
      ⊢ iprop((cred (tallyAt (ysC c p) () N) ∗ ow (F := F) c (owe c a (p.val + 1)) -∗ wp Idealize.ShloMosaic.frame (wpE defs 𝒱₀ (c : Thread nD τ) none) Set.univ (k ⟨⟩) Q)
        -∗ wp Idealize.ShloMosaic.frame (wpE defs 𝒱₀ (c : Thread nD τ) none) Set.univ (.op (.enqueueDma src (.remote (Dev.tc dev) dst (.dma sS) hsc) (.dma sR) hsrc hdst hsem) k) Q) := by
  subst hsrc' hdst' hdev hsS hsR
  unfold anyAt owns
  iintro ⟨#HI, ⟨%f, %hf, Hs⟩, ⟨%X, %g, %hg, Hd⟩, ⟨%W, HO⟩, Ht1, #Hr1, Ht2, #Hr2⟩ Hk
  iapply (Rounds.wp_send_pointsTo 𝒱₀ ER (Rd P) (c : Thread nD τ) none (c' := (py c : Thread nD τ)) (src := slot pM p) (dst := ob c p)
      (sS := .dma (ysS p)) (sem := .dma (yrS p)) (q := fullShare.left) (fs := f) (κ₁ := K (ysC c p)) (κ₂ := K (yrC (py c) p))
      (r₁ := 0) (r₂ := 0) (d₁ := false) (d₂ := false) (fd := g)
      (by rw [duties_ys]; exact Finset.mem_singleton_self _) (by rw [duties_yr]; exact Finset.mem_singleton_self _)
      () () N (N_oblk _ p _) (amount_ys P c p false) (amount_yr P (py c) p false) (owe c a (p.val + 1)) (owe_y c p a) (W := W)
      (by rw [payload_ys]; unfold ysPay owns
          iintro H; iexists f; isplitr; · ipureintro; exact hf
          iexact H)
      (by rw [payload_yr]; unfold yrPay owns; rw [py_py]
          iintro H; iexists _; isplitr; swap; · iexact H
          ipureintro; rw [View.read_write_univ]; exact hf)) $$ [Hs Hd HO Ht1 Ht2]
  · isplitr; · iapply (Inv_at P K (ys_mem c p)); iexact HI
    isplitr; · iapply (Inv_at P K (yr_mem (py c) p)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Copying the reduced block `p` into the device's own output, reading the slot at its other half. -/
theorem copy_own {src : Memref sig .tc .vmem S2048x1024 .bf16} (hsrc' : src = slot pM p) {dst : Memref sig .tc .hbm S2048x1024 .bf16} (hdst' : dst = ob c p)
    {sm : DmaSem sig} (hsm : sm = owS p) {hsrc hdst hsem}
    {k : PUnit → Prog (TpuEff nD τ sig (Elt F) Λ .tc) PUnit} :
    iprop(Inv P K ∗ owns (c : Thread nD τ) (slot pM p) fullShare.right (R P c p) ∗ anyAt (F := F) c (ob c p)
        ∗ dutyTok ER (owC c p) 0 false ∗ reached ER (owC c p) 0)
      ⊢ iprop((cred (tallyAt (owC c p) () N) -∗ wp Idealize.ShloMosaic.frame (wpE defs 𝒱₀ (c : Thread nD τ) none) Set.univ (k ⟨⟩) Q)
        -∗ wp Idealize.ShloMosaic.frame (wpE defs 𝒱₀ (c : Thread nD τ) none) Set.univ (.op (.enqueueDma src (.here dst) (.dma sm) hsrc hdst hsem) k) Q) := by
  subst hsrc' hdst' hsm
  unfold anyAt owns
  iintro ⟨#HI, ⟨%f, %hf, Hs⟩, ⟨%X, %g, %hg, Hd⟩, Ht, #Hr⟩ Hk
  iapply (Rounds.wp_copy_pointsTo 𝒱₀ ER (Rd P) (c : Thread nD τ) none (src := slot pM p) (dst := ob c p) (sem := .dma (owS p))
      (q := fullShare.right) (fs := f) (fd := g) (r := 0) (d := false) (κ := K (owC c p))
      (by rw [duties_ow]; exact Finset.mem_singleton_self _) () N (N_oblk _ p _) (amount_ow P c p false)
      (by rw [payload_ow]; unfold owPay owns
          iintro ⟨H, Hs⟩
          isplitl [H]
          · iexists _; isplitr; swap; · iexact H
            ipureintro; rw [View.read_write_univ]; exact hf
          · iexists f; isplitr; · ipureintro; exact hf
            iexact Hs)) $$ [Hs Hd Ht]
  · isplitr; · iapply (Inv_at P K (ow_mem c p)); iexact HI
    isplitl [Hs]; · iexact Hs
    isplitl [Hd]; · iexact Hd
    isplitl [Ht]; · iexact Ht
    iexact Hr
  iexact Hk

/-- Waiting for a transfer's counter, whose round hands over `Z`, and closing its cell. -/
theorem wait_close (s : DmaSem sig) (Z : sProp 𝕄) (O : CellTallies nD τ sig Unit) (hmem : ((c : Thread nD τ), .dma s) ∈ barCells ∪ dmaCells)
    (hexp : (Rd P).expect ((c : Thread nD τ), .dma s) 0 = N)
    (hrest : bigSep ((Rd P).duties ((c : Thread nD τ), .dma s) 0 \ ∅) (fun d => (Rd P).payload ((c : Thread nD τ), .dma s) 0 d) = Z)
    {sp sp' : Space} {src : Memref sig .tc sp S2048x1024 .bf16} {dst : Memref sig .tc sp' S2048x1024 .bf16} (hN : dst.view.dmaCredit = N) {h1 h2}
    {k : PUnit → Prog (TpuEff nD τ sig (Elt F) Λ .tc) PUnit} :
    iprop(Inv P K ∗ cred (tallyAt ((c : Thread nD τ), .dma s) () N) ∗ ow (F := F) c O ∗ MayWait (c : Thread nD τ) (.dma s) () O
        ∗ atPos ER ((c : Thread nD τ), .dma s) 0 ∅ 0)
      ⊢ iprop((ow (F := F) c O ∗ semVal ((c : Thread nD τ), .dma s) 0 ∗ Z -∗ wp Idealize.ShloMosaic.frame (wpE defs 𝒱₀ (c : Thread nD τ) none) Set.univ (k ⟨⟩) Q)
        -∗ wp Idealize.ShloMosaic.frame (wpE defs 𝒱₀ (c : Thread nD τ) none) Set.univ (.op (.waitDma2 s src dst h1 h2) k) Q) := by
  iintro ⟨#HI, Hc, ⟨%W, HO⟩, Hm, Hat⟩ Hk
  iapply (Rounds.wp_wait_rest_token 𝒱₀ ER (Rd P) (c : Thread nD τ) none (κ := K ((c : Thread nD τ), .dma s))
      (wpE_waitDma2_eq 𝒱₀ (c : Thread nD τ) none Set.univ) (Set.mem_univ _) () (O := O) (W := W) (R := 0) (m := 0) (T := ∅)
      ((Nat.zero_add _).trans (hN.trans hexp.symm))) $$ [Hc HO Hm Hat]
  · isplitr; · iapply (Inv_at P K hmem); iexact HI
    isplitl [Hc]; · rw [hN]; iexact Hc
    isplitl [HO]; · iexact HO
    isplitl [Hm]; · iexact Hm
    iexact Hat
  iintro ⟨HO, Hat, -, HZ⟩
  ihave HZ := (Entails.of_eq hrest) $$ HZ
  imod (Rounds.cell_close ER (Rd P) (Set.mem_univ (K ((c : Thread nD τ), .dma s))) id (duties_later P ((c : Thread nD τ), .dma s))) $$ [Hat] with Hv
  · isplitr; · iapply (Inv_at P K hmem); iexact HI
    iexact Hat
  iapply Hk
  isplitl [HO]; · iexists _; iexact HO
  isplitl [Hv]; · iexact Hv
  iexact HZ

end Rules

end Cert.KernelIdeal.Swap
-- ==== Proof.Slots.lean ====
/-
# What a device holds of slot `p` as the kernel goes on

Before the barrier a slot is `fresh`; after it, `ready` to be sent; once its partial product is sent, `sent`; once the
neighbour's has arrived, the two are added and the sum sent on, `reduced`; and `done` when the other half of the output's
block has arrived and every counter is back at zero.
-/
module

public import proofs.«01_k».proof.Proof.Steps

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (P : Dev nD → Fin 4 → Blk F) (K : GSem nD τ sig → ℕ)

abbrev at0 (g : GSem nD τ sig) : sProp 𝕄 := atPos ER g 0 ∅ 0
abbrev rch (g : GSem nD τ sig) : sProp 𝕄 := reached ER g 0
abbrev tok (g : GSem nD τ sig) : sProp 𝕄 := dutyTok ER g 0 false
abbrev crd (g : GSem nD τ sig) : sProp 𝕄 := cred (tallyAt g () N)
abbrev zero (g : GSem nD τ sig) : sProp 𝕄 := semVal g 0

section States

variable (c : Dev nD) (p : Fin 4)

/-- The neighbour's arrival slot and output block, lent. -/
def borrowX : sProp 𝕄 := iprop(anyAt (F := F) (px c) (slot xM p) ∗ rch (F := F) (xrC (px c) p))
def borrowY : sProp 𝕄 := iprop(anyAt (F := F) (py c) (ob c p) ∗ rch (F := F) (yrC (py c) p))
/-- The device's own, to be lent. -/
def lendX : sProp 𝕄 := iprop(anyAt (F := F) c (slot xM p) ∗ rch (F := F) (xrC c p))
def lendY : sProp 𝕄 := iprop(anyAt (F := F) c (ob (py c) p) ∗ rch (F := F) (yrC c p))

/-- What a slot comes with that is not lent. -/
def keep : sProp 𝕄 :=
  iprop(anyAt (F := F) c (slot pM p) ∗ anyAt (F := F) c (ob c p)
    ∗ at0 (F := F) (xsC c p) ∗ at0 (F := F) (xrC c p) ∗ at0 (F := F) (ysC c p) ∗ at0 (F := F) (yrC c p) ∗ at0 (F := F) (owC c p)
    ∗ rch (F := F) (xsC c p) ∗ rch (F := F) (ysC c p) ∗ rch (F := F) (owC c p)
    ∗ tok (F := F) (xsC c p) ∗ tok (F := F) (xrC (px c) p) ∗ tok (F := F) (ysC c p) ∗ tok (F := F) (yrC (py c) p) ∗ tok (F := F) (owC c p)
    ∗ crd (F := F) (xrC c p) ∗ crd (F := F) (yrC c p))

def stFresh : sProp 𝕄 := iprop(keep (F := F) c p ∗ lendX (F := F) c p ∗ lendY (F := F) c p)
def stReady : sProp 𝕄 := iprop(keep (F := F) c p ∗ borrowX (F := F) c p ∗ borrowY (F := F) c p)
def stSent : sProp 𝕄 :=
  iprop(anyAt (F := F) c (ob c p) ∗ borrowY (F := F) c p
    ∗ at0 (F := F) (xsC c p) ∗ at0 (F := F) (xrC c p) ∗ at0 (F := F) (ysC c p) ∗ at0 (F := F) (yrC c p) ∗ at0 (F := F) (owC c p)
    ∗ rch (F := F) (ysC c p) ∗ rch (F := F) (owC c p)
    ∗ tok (F := F) (ysC c p) ∗ tok (F := F) (yrC (py c) p) ∗ tok (F := F) (owC c p)
    ∗ crd (F := F) (xsC c p) ∗ crd (F := F) (xrC c p) ∗ crd (F := F) (yrC c p))
def stReduced : sProp 𝕄 :=
  iprop(anyAt (F := F) c (slot xM p) ∗ zero (F := F) (xsC c p) ∗ zero (F := F) (xrC c p)
    ∗ at0 (F := F) (ysC c p) ∗ at0 (F := F) (yrC c p) ∗ at0 (F := F) (owC c p)
    ∗ crd (F := F) (ysC c p) ∗ crd (F := F) (yrC c p) ∗ crd (F := F) (owC c p))
def stDone : sProp 𝕄 :=
  iprop(anyAt (F := F) c (slot xM p) ∗ anyAt (F := F) c (slot pM p)
    ∗ zero (F := F) (xsC c p) ∗ zero (F := F) (xrC c p) ∗ zero (F := F) (ysC c p) ∗ zero (F := F) (yrC c p) ∗ zero (F := F) (owC c p)
    ∗ owns (c : Thread nD τ) (ob c p) fullShare (R P c p) ∗ owns (c : Thread nD τ) (ob (py c) p) fullShare (R P (py c) p))

/-- The barrier, before it is met, -/
def barStart : sProp 𝕄 :=
  iprop(at0 (F := F) (barC c) ∗ cred (tallyAt (barC c) () 2) ∗ dutyTok ER (barC (px c)) 0 false ∗ dutyTok ER (barC (py c)) 0 true
    ∗ rch (F := F) (barC (px c)) ∗ rch (F := F) (barC (py c)))

end States

theorem halves (c : Dev nD) {sp : Space} (m : Memref sig .tc sp S2048x1024 .bf16) (X : Blk F) :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- The two halves of a slot's share, at the same contents, are the slot. -/
theorem unhalve (c : Dev nD) {sp : Space} (m : Memref sig .tc sp S2048x1024 .bf16) (X : Blk F) :
    iprop(owns (c : Thread nD τ) m fullShare.left X ∗ owns (c : Thread nD τ) m fullShare.right X)
      ⊢ (owns (c : Thread nD τ) m fullShare X : sProp 𝕄) := by
  unfold owns
  iintro ⟨⟨%f, %hf, H1⟩, ⟨%g, %hg, H2⟩⟩
  have e : ∀ i ∈ m.view.set, g i = f i := by
    intro i hi
    obtain ⟨j, -, rfl⟩ := Finset.mem_map.mp hi
    have h := congrFun (hg.trans hf.symm) j
    unfold View.read at h
    exact (cast_inj _).mp h
  iexists f; isplitr; · ipureintro; exact hf
  ihave H2 := (Entails.of_eq (pointsTo_congr e)) $$ H2
  iapply (pointsTo_share (PosShare.mem_left_op_right fullShare)).2
  isplitl [H1]; · iexact H1
  iexact H2

section Moves

variable {Λ : Labels} {defs : Defs nD τ sig (Elt F) Λ} (c : Dev nD) (p : Fin 4)
variable {Q : PUnit.{1} → sProp (MT nD τ sig Unit (Elt F) ℕ UU ℕ)}

/-- A slot's partial product is stored and sent. -/
theorem push {b : ℕ} {src dst : Memref sig .tc .vmem S2048x1024 .bf16} (hsrc' : src = slot pM p) (hdst' : dst = slot xM p) {dev : Dev nD} (hdev : dev = px c)
    {sS sR : DmaSem sig} (hsS : sS = xsS p) (hsR : sR = xrS p) {w : S1x2048x1024.Idx → Elt F .bf16} (hw : unbox w = P c p)
    {hl hx hm hsc hsrc hdst hsem} {k : PUnit → Prog (TpuEff nD τ sig (Elt F) Λ .tc) PUnit} :
    iprop(Inv P K ∗ stReady (F := F) c p ∗ ow (F := F) c (owe c p.val b))
      ⊢ iprop((stSent (F := F) c p ∗ ow (F := F) c (owe c (p.val + 1) b) -∗ wp Idealize.ShloMosaic.frame (wpE defs 𝒱₀ (c : Thread nD τ) none) Set.univ (k ⟨⟩) Q)
        -∗ wp Idealize.ShloMosaic.frame (wpE defs 𝒱₀ (c : Thread nD τ) none) Set.univ
            (.op (.load pM (slotR p).toLoadRect hl) fun _ => .op (.store pM (slotR p) w Finset.univ hx hm) fun _ =>
              .op (.enqueueDma src (.remote (Dev.tc dev) dst (.dma sS) hsc) (.dma sR) hsrc hdst hsem) k) Q) := by
  unfold stReady keep borrowX
  iintro ⟨#HI, ⟨⟨⟨%X, Hp⟩, Hob, Has, Har, Hays, Hayr, Haow, #Hrs, #Hrys, #Hrow, Hts, Htr, Htys, Htyr, Htow, Hcr, Hcyr⟩, ⟨Hbx, #Hrx⟩, Hby⟩, HO⟩ Hk
  iapply (load_slot 𝒱₀ c none pM p) $$ Hp
  iintro Hp
  iapply (store_slot 𝒱₀ c none pM p) $$ Hp
  iintro Hp
  rw [hw]
  iapply (send_x P K c p 0 hsrc' hdst' hdev hsS hsR) $$ [Hp Hbx HO Hts Htr]
  · isplitr; · iexact HI
    isplitl [Hp]; · iexact Hp
    isplitl [Hbx]; · iexact Hbx
    isplitl [HO]; · iexact HO
    isplitl [Hts]; · iexact Hts
    isplitr; · iexact Hrs
    isplitl [Htr]; · iexact Htr
    iexact Hrx
  iintro ⟨Hcs, HO⟩
  iapply Hk
  isplitr [HO]; swap; · iexact HO
  unfold stSent
  isplitl [Hob]; · iexact Hob
  isplitl [Hby]; · iexact Hby
  isplitl [Has]; · iexact Has
  isplitl [Har]; · iexact Har
  isplitl [Hays]; · iexact Hays
  isplitl [Hayr]; · iexact Hayr
  isplitl [Haow]; · iexact Haow
  isplitr; · iexact Hrys
  isplitr; · iexact Hrow
  isplitl [Htys]; · iexact Htys
  isplitl [Htyr]; · iexact Htyr
  isplitl [Htow]; · iexact Htow
  isplitl [Hcs]; · iexact Hcs
  isplitl [Hcr]; · iexact Hcr
  iexact Hcyr

/-- The neighbour's partial product is waited for and added, and the sum sent on and copied home. -/
theorem reduce {a : ℕ} (ha : p.val < a)
    {sp1 sp2 sp3 sp4 : Space} {src1 : Memref sig .tc sp1 S2048x1024 .bf16} {dst1 : Memref sig .tc sp2 S2048x1024 .bf16}
    {src2 : Memref sig .tc sp3 S2048x1024 .bf16} {dst2 : Memref sig .tc sp4 S2048x1024 .bf16}
    (hN1 : dst1.view.dmaCredit = N) (hN2 : dst2.view.dmaCredit = N)
    {s1 s2 : DmaSem sig} (hs1 : s1 = xsS p) (hs2 : s2 = xrS p)
    {g : (S1x2048x1024.Idx → Elt F .bf16) → (S1x2048x1024.Idx → Elt F .bf16) → S1x2048x1024.Idx → Elt F .bf16}
    (hg : ∀ X Y, unbox (g (box X) (box Y)) = red X Y)
    {src3 src4 : Memref sig .tc .vmem S2048x1024 .bf16} (hsrc3 : src3 = slot pM p) (hsrc4 : src4 = slot pM p)
    {dst3 dst4 : Memref sig .tc .hbm S2048x1024 .bf16} (hdst3 : dst3 = ob c p) (hdst4 : dst4 = ob c p) {dev : Dev nD} (hdev : dev = py c)
    {s3 s4 s5 : DmaSem sig} (hs3 : s3 = ysS p) (hs4 : s4 = yrS p) (hs5 : s5 = owS p)
    {w1 w2 w3 w4 hl1 hl2 hl3 hx hm hsc h3 h4 h5 h6 h7 h8} {k : PUnit → Prog (TpuEff nD τ sig (Elt F) Λ .tc) PUnit} :
    iprop(Inv P K ∗ levAts L lv ∗ stSent (F := F) c p ∗ ow (F := F) c (owe c a p.val))
      ⊢ iprop((stReduced (F := F) c p ∗ ow (F := F) c (owe c a (p.val + 1)) -∗ wp Idealize.ShloMosaic.frame (wpE defs 𝒱₀ (c : Thread nD τ) none) Set.univ (k ⟨⟩) Q)
        -∗ wp Idealize.ShloMosaic.frame (wpE defs 𝒱₀ (c : Thread nD τ) none) Set.univ
            (.op (.waitDma2 s1 src1 dst1 w1 w2) fun _ => .op (.waitDma2 s2 src2 dst2 w3 w4) fun _ =>
              .op (.load pM (slotR p).toLoadRect hl1) fun v => .op (.load xM (slotR p).toLoadRect hl2) fun u =>
              .op (.load pM (slotR p).toLoadRect hl3) fun _ => .op (.store pM (slotR p) (g v u) Finset.univ hx hm) fun _ =>
              .op (.enqueueDma src3 (.remote (Dev.tc dev) dst3 (.dma s3) hsc) (.dma s4) h3 h4 h5) fun _ =>
              .op (.enqueueDma src4 (.here dst4) (.dma s5) h6 h7 h8) k) Q) := by
  subst hs1 hs2
  unfold stSent borrowY
  iintro ⟨#HI, #Hlev, ⟨Hob, ⟨Hby, #Hry⟩, Has, Har, Hays, Hayr, Haow, #Hrys, #Hrow, Htys, Htyr, Htow, Hcs, Hcr, Hcyr⟩, HO⟩ Hk
  iapply (wait_close P K c (xsS p) (xsPay P c p) (owe c a p.val) (xs_mem c p) (expect_xs P c p) (rest_xs P c p) hN1) $$ [Hcs HO Has]
  · isplitr; · iexact HI
    isplitl [Hcs]; · iexact Hcs
    isplitl [HO]; · iexact HO
    isplitr; · iapply (mayWait_owe c (.dma (xsS p)) a p.val 0 (by rw [lv_xs]) (by omega) (by omega)); iexact Hlev
    iexact Has
  iintro ⟨HO, Hzs, Hp⟩
  iapply (wait_close P K c (xrS p) (xrPay P c p) (owe c a p.val) (xr_mem c p) (expect_xr P c p) (rest_xr P c p) hN2) $$ [Hcr HO Har]
  · isplitr; · iexact HI
    isplitl [Hcr]; · iexact Hcr
    isplitl [HO]; · iexact HO
    isplitr; · iapply (mayWait_owe c (.dma (xrS p)) a p.val (2 + p.val) (by rw [lv_xr]) (by omega) (by omega)); iexact Hlev
    iexact Har
  iintro ⟨HO, Hzr, Hx⟩
  unfold xsPay xrPay
  iapply (load_slot 𝒱₀ c none pM p) $$ Hp
  iintro Hp
  iapply (load_slot 𝒱₀ c none xM p) $$ Hx
  iintro Hx
  iapply (load_slot 𝒱₀ c none pM p) $$ Hp
  iintro Hp
  iapply (store_slot 𝒱₀ c none pM p) $$ Hp
  iintro Hp
  rw [hg, show red (P c p) (P (px c) p) = R P c p from rfl]
  ihave Hp := (halves c (slot pM p) (R P c p)) $$ Hp
  icases Hp with ⟨Hp1, Hp2⟩
  iapply (send_y P K c p a hsrc3 hdst3 hdev hs3 hs4) $$ [Hp1 Hby HO Htys Htyr]
  · isplitr; · iexact HI
    isplitl [Hp1]; · iexact Hp1
    isplitl [Hby]; · iexact Hby
    isplitl [HO]; · iexact HO
    isplitl [Htys]; · iexact Htys
    isplitr; · iexact Hrys
    isplitl [Htyr]; · iexact Htyr
    iexact Hry
  iintro ⟨Hcys, HO⟩
  iapply (copy_own P K c p hsrc4 hdst4 hs5) $$ [Hp2 Hob Htow]
  · isplitr; · iexact HI
    isplitl [Hp2]; · iexact Hp2
    isplitl [Hob]; · iexact Hob
    isplitl [Htow]; · iexact Htow
    iexact Hrow
  iintro Hcow
  iapply Hk
  isplitr [HO]; swap; · iexact HO
  unfold stReduced
  isplitl [Hx]; · iexists _; iexact Hx
  isplitl [Hzs]; · iexact Hzs
  isplitl [Hzr]; · iexact Hzr
  isplitl [Hays]; · iexact Hays
  isplitl [Hayr]; · iexact Hayr
  isplitl [Haow]; · iexact Haow
  isplitl [Hcys]; · iexact Hcys
  isplitl [Hcyr]; · iexact Hcyr
  iexact Hcow

/-- The slot's last three counters are waited for. -/
theorem finish {sp1 sp2 sp3 sp4 sp5 sp6 : Space} {src1 : Memref sig .tc sp1 S2048x1024 .bf16} {dst1 : Memref sig .tc sp2 S2048x1024 .bf16}
    {src2 : Memref sig .tc sp3 S2048x1024 .bf16} {dst2 : Memref sig .tc sp4 S2048x1024 .bf16}
    {src3 : Memref sig .tc sp5 S2048x1024 .bf16} {dst3 : Memref sig .tc sp6 S2048x1024 .bf16}
    (hN1 : dst1.view.dmaCredit = N) (hN2 : dst2.view.dmaCredit = N) (hN3 : dst3.view.dmaCredit = N)
    {s1 s2 s3 : DmaSem sig} (hs1 : s1 = ysS p) (hs2 : s2 = yrS p) (hs3 : s3 = owS p)
    {w1 w2 w3 w4 w5 w6} {k : PUnit → Prog (TpuEff nD τ sig (Elt F) Λ .tc) PUnit} :
    iprop(Inv P K ∗ stReduced (F := F) c p ∗ ow (F := F) c 0)
      ⊢ iprop((stDone P c p ∗ ow (F := F) c 0 -∗ wp Idealize.ShloMosaic.frame (wpE defs 𝒱₀ (c : Thread nD τ) none) Set.univ (k ⟨⟩) Q)
        -∗ wp Idealize.ShloMosaic.frame (wpE defs 𝒱₀ (c : Thread nD τ) none) Set.univ
            (.op (.waitDma2 s1 src1 dst1 w1 w2) fun _ => .op (.waitDma2 s2 src2 dst2 w3 w4) fun _ =>
              .op (.waitDma2 s3 src3 dst3 w5 w6) k) Q) := by
  subst hs1 hs2 hs3
  unfold stReduced
  iintro ⟨#HI, ⟨Hx, Hzs, Hzr, Hays, Hayr, Haow, Hcys, Hcyr, Hcow⟩, HO⟩ Hk
  iapply (wait_close P K c (ysS p) (ysPay P c p) 0 (ys_mem c p) (expect_ys P c p) (rest_ys P c p) hN1) $$ [Hcys HO Hays]
  · isplitr; · iexact HI
    isplitl [Hcys]; · iexact Hcys
    isplitl [HO]; · iexact HO
    isplitr; · rw [MayWait_zero]; iempintro
    iexact Hays
  iintro ⟨HO, Hzys, Hp1⟩
  iapply (wait_close P K c (yrS p) (yrPay P c p) 0 (yr_mem c p) (expect_yr P c p) (rest_yr P c p) hN2) $$ [Hcyr HO Hayr]
  · isplitr; · iexact HI
    isplitl [Hcyr]; · iexact Hcyr
    isplitl [HO]; · iexact HO
    isplitr; · rw [MayWait_zero]; iempintro
    iexact Hayr
  iintro ⟨HO, Hzyr, Hoy⟩
  iapply (wait_close P K c (owS p) (owPay P c p) 0 (ow_mem c p) (expect_ow P c p) (rest_ow P c p) hN3) $$ [Hcow HO Haow]
  · isplitr; · iexact HI
    isplitl [Hcow]; · iexact Hcow
    isplitl [HO]; · iexact HO
    isplitr; · rw [MayWait_zero]; iempintro
    iexact Haow
  iintro ⟨HO, Hzow, How⟩
  unfold owPay ysPay yrPay
  icases How with ⟨Hoc, Hp2⟩
  iapply Hk
  isplitr [HO]; swap; · iexact HO
  unfold stDone
  isplitl [Hx]; · iexact Hx
  isplitl [Hp1 Hp2]
  · iexists (R P c p)
    iapply (unhalve c (slot pM p) (R P c p))
    isplitl [Hp1]; · iexact Hp1
    iexact Hp2
  isplitl [Hzs]; · iexact Hzs
  isplitl [Hzr]; · iexact Hzr
  isplitl [Hzys]; · iexact Hzys
  isplitl [Hzyr]; · iexact Hzyr
  isplitl [Hzow]; · iexact Hzow
  isplitl [Hoc]; · iexact Hoc
  iexact Hoy

theorem lendX_eq : (bigSep Finset.univ (lendX (F := F) c) : sProp 𝕄) = barX (px c) := by
  unfold barX lendX; rw [px_px]
theorem lendY_eq : (bigSep Finset.univ (lendY (F := F) c) : sProp 𝕄) = barY (py c) := by
  unfold barY lendY; rw [py_py]

theorem barX_eq : (barX c : sProp 𝕄) = bigSep Finset.univ (borrowX (F := F) c) := rfl
theorem barY_eq : (barY c : sProp 𝕄) = bigSep Finset.univ (borrowY (F := F) c) := rfl

/-- The barrier: each neighbour is lent this device's slots, and lends its own. -/
theorem barrier {d1 d2 : Dev nD} (h1 : d1 = px c) (h2 : d2 = py c) {k : PUnit → Prog (TpuEff nD τ sig (Elt F) Λ .tc) PUnit} :
    iprop(Inv P K ∗ levAts L lv ∗ bigSep Finset.univ (stFresh (F := F) c) ∗ barStart (F := F) c ∗ ow (F := F) c (owe0 c))
      ⊢ iprop((bigSep Finset.univ (stReady (F := F) c) ∗ zero (F := F) (barC c) ∗ ow (F := F) c (owe c 0 0) -∗ wp Idealize.ShloMosaic.frame (wpE defs 𝒱₀ (c : Thread nD τ) none) Set.univ (k ⟨⟩) Q)
        -∗ wp Idealize.ShloMosaic.frame (wpE defs 𝒱₀ (c : Thread nD τ) none) Set.univ
            (.op (.semSignal (d1, Proc.tc) barS (1#32).toInt) fun _ => .op (.semSignal (d2, Proc.tc) barS (1#32).toInt) fun _ =>
              .op (.semWait barS (2#32).toInt) k) Q) := by
  subst h1 h2
  unfold stFresh stReady barStart
  rw [bigSep_sep', bigSep_sep', bigSep_sep', bigSep_sep', lendX_eq, lendY_eq]
  iintro ⟨#HI, #Hlev, ⟨Hkeep, Hlx, Hly⟩, ⟨Hat, Hc, Htx, Hty, #Hrx, #Hry⟩, ⟨%W, HO⟩⟩ Hk
  iapply (Rounds.wp_signal 𝒱₀ ER (Rd P) (c : Thread nD τ) none (dst := (px c : Thread nD τ)) (sem := barS) (r := 0) (d := false) (κ := K (barC (px c)))
      (by rw [duties_bar]; decide) (amount_bar P (px c) false) () (owe c 0 0 + tallyAt (barC (py c)) () 1) rfl) $$ [HO Htx Hlx]
  · isplitr; · iapply (Inv_at P K (bar_mem (px c))); iexact HI
    isplitl [HO]; · iexact HO
    isplitl [Htx]; · iexact Htx
    isplitl [Hlx]; · rw [payload_barX]; iexact Hlx
    iexact Hrx
  iintro HO
  iapply (Rounds.wp_signal 𝒱₀ ER (Rd P) (c : Thread nD τ) none (dst := (py c : Thread nD τ)) (sem := barS) (r := 0) (d := true) (κ := K (barC (py c)))
      (by rw [duties_bar]; decide) (amount_bar P (py c) true) () (owe c 0 0) rfl) $$ [HO Hty Hly]
  · isplitr; · iapply (Inv_at P K (bar_mem (py c))); iexact HI
    isplitl [HO]; · iexact HO
    isplitl [Hty]; · iexact Hty
    isplitl [Hly]; · rw [payload_barY]; iexact Hly
    iexact Hry
  iintro HO
  iapply (Rounds.wp_wait_rest_token 𝒱₀ ER (Rd P) (c : Thread nD τ) none (κ := K (barC c))
      (wpE_semWait_eq 𝒱₀ (c : Thread nD τ) none Set.univ) (Set.mem_univ _) () (O := owe c 0 0) (W := W) (R := 0) (m := 0) (T := ∅)
      ((Nat.zero_add 2).trans (expect_bar P c).symm)) $$ [Hc HO Hat]
  · isplitr; · iapply (Inv_at P K (bar_mem c)); iexact HI
    isplitl [Hc]; · iexact Hc
    isplitl [HO]; · iexact HO
    isplitr; · iapply (mayWait_owe c (.reg barS) 0 0 1 (le_of_eq (lv_bar c ())) (by omega) (by omega)); iexact Hlev
    iexact Hat
  iintro ⟨HO, Hat, -, HZ⟩
  ihave HZ := (Entails.of_eq (rest_bar P c)) $$ HZ
  icases HZ with ⟨Hbx, Hby⟩
  imod (Rounds.cell_close ER (Rd P) (Set.mem_univ (K (barC c))) id (duties_later P (barC c))) $$ [Hat] with Hv
  · isplitr; · iapply (Inv_at P K (bar_mem c)); iexact HI
    iexact Hat
  iapply Hk
  isplitl [Hkeep Hbx Hby]
  · isplitl [Hkeep]; · iexact Hkeep
    isplitl [Hbx]; · iapply (Entails.of_eq (barX_eq c)); iexact Hbx
    iapply (Entails.of_eq (barY_eq c)); iexact Hby
  isplitl [Hv]; · iexact Hv
  iexists _; iexact HO

end Moves

end Cert.KernelIdeal.Swap
-- ==== Proof.Data.lean ====
/-
# The values and the pipeline's proof data

The prefetched table of device `c` holds its column on the mesh, `c % 2`. At grid point `16 j + k` the windows stage rows
`2048 (c % 2) …` and columns `512 k …` of `dy`, and rows `1024 j …` and columns `512 k …` of `W`; the accumulator sums
their products over `k`.
-/
module

public import proofs.«01_k».proof.Proof.Slots
public import proofs.«01_k».proof.Proof.Gen.KernelIdeal.Regions
public import proofs.«01_k».proof.Proof.Gen.KernelIdeal.Skeleton
public import Idealize.ShloMosaic.Lib.Pointwise.Index

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The prefetched table -/

/-- Device `c`'s table: its column on the mesh. -/
def tab (c : Dev nD) : pre0.Contents (Elt F) := fun | 0 => fun _ => BitVec.ofNat 32 (c.val % 2)

theorem at_tab (c : Dev nD) (i : grid0.Coords) :
    cc0_transform_0 (F := F) Gen.facts₀.inb_S1_S1_0 Gen.facts₀.numel1_S1 (tab c) i = ![c.val % 2, (i 1).val] := by
  have h1 : (BitVec.ofNat 32 (c.val % 2)).toNat = c.val % 2 := by rw [BitVec.toNat_ofNat, Nat.mod_eq_of_lt]; omega
  have h2 : (BitVec.ofNat 32 (i 1).val).toNat = (i 1).val := by
    have : (i 1).val < 16 := (i 1).isLt
    rw [BitVec.toNat_ofNat, Nat.mod_eq_of_lt]; omega
  show ![(BitVec.ofNat 32 (c.val % 2)).toNat, (BitVec.ofNat 32 (i 1).val).toNat] = _
  rw [h1, h2]

theorem tf1 (i : grid0.Coords) : cc0_transform_1 i = ![(i 0).val, (i 1).val] := by
  have h1 : (BitVec.ofNat 32 (i 0).val).toNat = (i 0).val := by
    have : (i 0).val < 4 := (i 0).isLt
    rw [BitVec.toNat_ofNat, Nat.mod_eq_of_lt]; omega
  have h2 : (BitVec.ofNat 32 (i 1).val).toNat = (i 1).val := by
    have : (i 1).val < 16 := (i 1).isLt
    rw [BitVec.toNat_ofNat, Nat.mod_eq_of_lt]; omega
  show ![(BitVec.ofNat 32 (i 0).val).toNat, (BitVec.ofNat 32 (i 1).val).toNat] = _
  rw [h1, h2]

/-- Its blocks are inside `dy`. -/
theorem ok_tab (c : Dev nD) : ok0 (F := F) (tab c) := by
  unfold ok0
  intro i
  refine ⟨?_, .inr (Affine.block_words_dvd (of_decide_eq_true rfl) (by decide))⟩
  rw [at_tab]
  have hi : (i 1).val < 16 := (i 1).isLt
  intro a
  fin_cases a
  · show (c.val % 2 + 1) * 2048 ≤ 4096; omega
  · show ((i 1).val + 1) * 512 ≤ 8192; omega

/-- The table of each device, with that. -/
def ad (c : Dev nD) (p : Fin 1) : (pcfgs (F := F) p).Adm := ⟨tab c, ok_tab c⟩

/-- The pipeline of each device. -/
abbrev cfgD (c : Dev nD) : Pipeline.Cfg sig Λ₀ := cfg0 (F := F) (ad c 0)

theorem coords (t : Fin grid0.N) : ((grid0.coords t) 0).val = t.val / 16 ∧ ((grid0.coords t) 1).val = t.val % 16 := by
  revert t; decide +kernel

theorem fetch0 (c : Dev nD) (t : Fin grid0.N) : ((cfgD (F := F) c).win 0).fetch t = true := by
  refine (Pipeline.Window.fetch_reads _ rfl (1 : Fin 2) (by decide) (Eq.trans rfl (by decide : grid0.fixedAfter reads0_0 1 = true)) ?_ (P := 1) (by decide) t).mpr (Nat.mod_one _)
  intro i i' h
  have h' : cc0_transform_0 (F := F) Gen.facts₀.inb_S1_S1_0 Gen.facts₀.numel1_S1 (tab c) i
      = cc0_transform_0 (F := F) Gen.facts₀.inb_S1_S1_0 Gen.facts₀.numel1_S1 (tab c) i' := h
  rw [at_tab, at_tab] at h'
  exact Fin.ext (congrFun h' 1)

theorem fetch1 (c : Dev nD) (t : Fin grid0.N) : ((cfgD (F := F) c).win 1).fetch t = true := by
  refine (Pipeline.Window.fetch_reads _ rfl (1 : Fin 2) (by decide) (Eq.trans rfl (by decide : grid0.fixedAfter reads0_1 1 = true)) ?_ (P := 1) (by decide) t).mpr (Nat.mod_one _)
  intro i i' h
  have h' : cc0_transform_1 i = cc0_transform_1 i' := h
  rw [tf1, tf1] at h'
  exact Fin.ext (congrFun h' 1)

/-! ## The blocks and their products -/

variable (m : (ℓ : Loc nD τ sig) → Buf (Elt F) ℓ)

/-- `dy` and `W` as device `c` holds them. -/
def dyA (c : Dev nD) : Vec F S4096x8192 .bf16 := m ((c : Thread nD τ).loc main_arg0)
def wA (c : Dev nD) : Vec F S4096x8192 .bf16 := m ((c : Thread nD τ).loc main_arg1)

/-- The block of `dy` at step `k`, and of `W` at column block `j` and step `k`. -/
def dyB (c : Dev nD) (k : ℕ) : Vec F S2048x512 .bf16 := fun i =>
  dyA m c (ix2 ⟨(2048 * (c.val % 2) + (i 0).val) % 4096, Nat.mod_lt _ (by decide)⟩ ⟨(512 * k + (i 1).val) % 8192, Nat.mod_lt _ (by decide)⟩)
def wB (c : Dev nD) (j k : ℕ) : Vec F S1024x512 .bf16 := fun i =>
  wA m c (ix2 ⟨(1024 * j + (i 0).val) % 4096, Nat.mod_lt _ (by decide)⟩ ⟨(512 * k + (i 1).val) % 8192, Nat.mod_lt _ (by decide)⟩)

/-- The accumulator of column block `j` after `k` steps. -/
def acc (c : Dev nD) (j : ℕ) : ℕ → Vec F S2048x1024 .f32
  | 0 => k0_pay8
  | k + 1 => k0_pay9 (dyB m c k) (wB m c j k) (acc c j k)

/-- The partial product a device sends, rounded to `bf16`. -/
def P (c : Dev nD) (p : Fin 4) : Blk F := truncf .bf16 (acc m c p.val 16) bitsLt_bf16_f32

/-- The windows' arrays at entry. -/
def A0 (c : Dev nD) : (w : Fin 2) → Buf (Elt F) (((cfgD (F := F) c).win w).arr.view.loc (c.tc : Thread nD τ))
  | 0 => m ((c : Thread nD τ).loc main_arg0)
  | 1 => m ((c : Thread nD τ).loc main_arg1)

theorem blk0 (c : Dev nD) (t : Fin grid0.N) :
    (((cfgD (F := F) c).win 0).blk t).view.read (Elt F) (A0 m c 0) = dyB m c (t.val % 16) := by
  have ht : (grid0.coords t 1).val = t.val % 16 := (coords t).2
  have hN : t.val < 64 := lt_of_lt_of_eq t.isLt N_0
  funext (i : S2048x512.Idx)
  have h0 : (i 0).val < 2048 := (i 0).isLt
  have h1 : (i 1).val < 512 := (i 1).isLt
  show m ((c : Thread nD τ).loc main_arg0) _ = m ((c : Thread nD τ).loc main_arg0) _
  congr 1
  funext (a : Fin 2)
  apply Fin.ext
  have e := congrFun (at_tab (F := F) c (grid0.coords t))
  fin_cases a
  · show cc0_transform_0 (F := F) Gen.facts₀.inb_S1_S1_0 Gen.facts₀.numel1_S1 (tab c) (grid0.coords t) 0 * 2048 + 1 * (i 0).val = (2048 * (c.val % 2) + (i 0).val) % 4096
    rw [e 0]
    show c.val % 2 * 2048 + 1 * (i 0).val = _
    omega
  · show cc0_transform_0 (F := F) Gen.facts₀.inb_S1_S1_0 Gen.facts₀.numel1_S1 (tab c) (grid0.coords t) 1 * 512 + 1 * (i 1).val = (512 * (t.val % 16) + (i 1).val) % 8192
    rw [e 1]
    show (grid0.coords t 1).val * 512 + 1 * (i 1).val = _
    omega

theorem blk1 (c : Dev nD) (t : Fin grid0.N) :
    (((cfgD (F := F) c).win 1).blk t).view.read (Elt F) (A0 m c 1) = wB m c (t.val / 16) (t.val % 16) := by
  have ht := coords t
  have hN : t.val < 64 := lt_of_lt_of_eq t.isLt N_0
  funext (i : S1024x512.Idx)
  have h0 : (i 0).val < 1024 := (i 0).isLt
  have h1 : (i 1).val < 512 := (i 1).isLt
  show m ((c : Thread nD τ).loc main_arg1) _ = m ((c : Thread nD τ).loc main_arg1) _
  congr 1
  funext (a : Fin 2)
  apply Fin.ext
  have e := congrFun (tf1 (grid0.coords t))
  fin_cases a
  · show cc0_transform_1 (grid0.coords t) 0 * 1024 + 1 * (i 0).val = (1024 * (t.val / 16) + (i 0).val) % 4096
    rw [e 0]
    show (grid0.coords t 0).val * 1024 + 1 * (i 0).val = _
    omega
  · show cc0_transform_1 (grid0.coords t) 1 * 512 + 1 * (i 1).val = (512 * (t.val % 16) + (i 1).val) % 8192
    rw [e 1]
    show (grid0.coords t 1).val * 512 + 1 * (i 1).val = _
    omega

/-! ## The pipeline's proof data -/

/-- What a device holds of slot `p` before point `n`. -/
def stAt (n : ℕ) (c : Dev nD) (p : Fin 4) : sProp 𝕄 :=
  if n = 0 then stFresh c p
  else if n = 64 then stDone (P m) c p
  else if n / 16 ≤ p.val then stReady c p
  else if n / 16 = p.val + 1 then stSent c p
  else stReduced c p

/-- The accumulator before point `n`: after `n % 16` steps of column block `n / 16`. -/
def accAt (n : ℕ) (c : Dev nD) : sProp 𝕄 :=
  iprop(∃ f : Vec F S2048x1024 .f32, ⌜n % 16 ≠ 0 → f = acc m c (n / 16) (n % 16)⌝ ∗ owns (c : Thread nD τ) aM fullShare f)

/-- The barrier before point `n`. -/
def barAt (n : ℕ) (c : Dev nD) : sProp 𝕄 := if n = 0 then barStart (F := F) c else zero (F := F) (barC c)

/-- What the device owes before point `n`. -/
def oweAt (n : ℕ) (c : Dev nD) : CellTallies nD τ sig Unit :=
  if n = 0 then owe0 c else if n = 64 then 0 else owe c (n / 16) (n / 16 - 1)

/-- The invariant of the run, less the part that does not move. -/
def inv (n : ℕ) (c : Dev nD) : sProp 𝕄 :=
  iprop((∃ K, Inv (P m) K) ∗ levAts L lv ∗ bigSep Finset.univ (stAt m n c) ∗ accAt m n c ∗ barAt (F := F) n c)

/-- The table, which no point of the body touches. -/
abbrev tabHeld (c : Dev nD) : sProp 𝕄 := Pipeline.prefHeld (pcfgs (F := F) 0).pre c (fun _ => fullShare) (ad c 0).1

def dat (c : Dev nD) : Pipeline.Dat τ (Elt F) Unit ℕ UU ℕ (cfgD (F := F) c) c where
  A := A0 m c
  after := fun
    | 0 => fun t => dyB m c (t.val % 16)
    | 1 => fun t => wB m c (t.val / 16) (t.val % 16)
  Φ n := iprop(inv m n.val c ∗ tabHeld (F := F) c)
  q _ := fullShare
  owed n := oweAt n.val c

abbrev pdats (p : Fin 1) (c : Dev nD) : Pipeline.Dat τ (Elt F) Unit ℕ UU ℕ (Pipeline.pinD (pcfgs (F := F)) ad c p) c := dat m c

theorem before0 (c : Dev nD) (t : Fin grid0.N) (d) : (dat m c).before 0 t d = dyB m c (t.val % 16) := by
  unfold Pipeline.Dat.before
  rw [if_pos (fetch0 c t)]
  exact blk0 m c t
theorem before1 (c : Dev nD) (t : Fin grid0.N) (d) : (dat m c).before 1 t d = wB m c (t.val / 16) (t.val % 16) := by
  unfold Pipeline.Dat.before
  rw [if_pos (fetch1 c t)]
  exact blk1 m c t

end Cert.KernelIdeal.Swap
-- ==== Proof.Whole.lean ====
/-
# Reading and writing a buffer whole

The accumulator and the staging buffers are read and written through the rectangle that is all of them.
-/
module

public import proofs.«01_k».proof.Proof.Memory

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem all_emb {s : Shape} {off : Fin s.rank → ℕ} (h : off = fun _ => 0) (inb : ∀ a, off a + s.size a ≤ s.size a) (x : s.Idx) :
    (Rect.unit (s := s) off s.size inb).emb x = x := by
  subst h
  funext a
  apply Fin.ext
  show 0 + 1 * (x a).val = (x a).val
  omega

theorem all_read {sp : Space} {s : Shape} {e : EltTy} (M : Memref sig .tc sp s e) {off : Fin s.rank → ℕ} (h : off = fun _ => 0)
    (inb : ∀ a, off a + s.size a ≤ s.size a) (f : M.view.ty.Contents (Elt F)) :
    (M.access (Rect.unit (s := s) off s.size inb)).read (Elt F) f = M.view.read (Elt F) f := by
  funext x
  show M.view.read (Elt F) f ((Rect.unit (s := s) off s.size inb).emb x) = _
  rw [all_emb h inb x]

theorem all_set {sp : Space} {s : Shape} {e : EltTy} (M : Memref sig .tc sp s e) {off : Fin s.rank → ℕ} (h : off = fun _ => 0)
    (inb : ∀ a, off a + s.size a ≤ s.size a) :
    (M.access (Rect.unit (s := s) off s.size inb)).set = M.view.set := by
  ext y
  constructor
  · intro hy
    obtain ⟨x, -, hx⟩ := Finset.mem_map.mp hy
    exact Finset.mem_map.mpr ⟨x, Finset.mem_univ _, (congrArg M.view.emb (all_emb h inb x)).symm.trans hx⟩
  · intro hy
    obtain ⟨x, -, hx⟩ := Finset.mem_map.mp hy
    exact Finset.mem_map.mpr ⟨x, Finset.mem_univ _, (congrArg M.view.emb (all_emb h inb x)).trans hx⟩

section Rules

variable {Λ : Labels} {defs : Defs nD τ sig (Elt F) Λ} (𝒱 : Variants) (c : Dev nD) (bd : Option 𝒱.V) {E : Set ℕ}
variable {Q : PUnit.{1} → sProp (MT nD τ sig Unit (Elt F) ℕ UU ℕ)}
variable {cs : CoreSpace} {s : Shape} {e : EltTy} (M : Memref sig .tc cs s e) {off : Fin s.rank → ℕ} (h : off = fun _ => 0)
  {inb : ∀ a, off a + s.size a ≤ s.size a}

include h

theorem load_all {hl} {q : PosShare TreeShare} {X : s.Idx → Elt F e} {k : (s.Idx → Elt F e) → Prog (TpuEff nD τ sig (Elt F) Λ .tc) PUnit} :
    owns (c : Thread nD τ) M q X
      ⊢ iprop((owns (c : Thread nD τ) M q X -∗ wp Idealize.ShloMosaic.frame (wpE defs 𝒱 (c : Thread nD τ) bd) E (k X) Q)
        -∗ wp Idealize.ShloMosaic.frame (wpE defs 𝒱 (c : Thread nD τ) bd) E
            (.op (.load M (Rect.unit (s := s) off s.size inb).toLoadRect hl) k) Q) := by
  unfold owns
  iintro ⟨%f, %hf, H⟩ Hk
  iapply (wp_load_rect 𝒱 (c : Thread nD τ) bd E (m := M) (r := Rect.unit (s := s) off s.size inb) (hl := hl) (k := k)
    (S := M.view.set) (q := q) (f := f) (by rw [all_set M h inb])) $$ H
  iintro H
  rw [all_read M h inb, hf]
  iapply Hk
  iexists f
  isplitr
  · ipureintro; exact hf
  · iexact H

theorem store_all {w : s.Idx → Elt F e} {hx hm} {X : s.Idx → Elt F e} {k : PUnit → Prog (TpuEff nD τ sig (Elt F) Λ .tc) PUnit} :
    owns (c : Thread nD τ) M fullShare X
      ⊢ iprop((owns (c : Thread nD τ) M fullShare w -∗ wp Idealize.ShloMosaic.frame (wpE defs 𝒱 (c : Thread nD τ) bd) E (k ⟨⟩) Q)
        -∗ wp Idealize.ShloMosaic.frame (wpE defs 𝒱 (c : Thread nD τ) bd) E
            (.op (.store M (Rect.unit (s := s) off s.size inb) w Finset.univ hx hm) k) Q) := by
  unfold owns
  iintro ⟨%f, %hf, H⟩ Hk
  iapply (wp_store 𝒱 (c : Thread nD τ) bd E (m := M) (r := Rect.unit (s := s) off s.size inb) (w := w) (Mk := Finset.univ) (hx := hx) (hm := hm) (k := k)
    (S := M.view.set) (f := f) (by rw [View.setOn_univ, all_set M h inb])) $$ H
  iintro H
  iapply Hk
  iexists (M.access (Rect.unit (s := s) off s.size inb)).write (Elt F) f w Finset.univ
  isplitr
  · ipureintro
    rw [← all_read M h inb, View.read_write_univ]
  · iexact H

end Rules

end Cert.KernelIdeal.Swap
-- ==== Proof.Steps2.lean ====
/-
# The body's straight runs

At each grid point the kernel's body is one of seven straight runs, chosen by the point: the product is added to the
accumulator (cleared first at the first step of a column block; the barrier first of all), and at the last step of a column
block its partial product is sent, the previous block's reduced, and at the very end everything waited for.
-/
module

public import proofs.«01_k».proof.Proof.Whole
public import proofs.«01_k».proof.Proof.Slots
public import proofs.«01_k».proof.Proof.Gen.KernelIdeal.Skeleton

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem zero2 : (![0, 0] : Fin 2 → ℕ) = fun _ => 0 := by funext a; fin_cases a <;> rfl

/-! ## The conditions -/

abbrev first (i : grid0.Coords) : BitVec 1 :=
  Scalar.cmpi .ne (Scalar.extui (Scalar.cmpi .eq (BitVec.ofNat 32 (i 1).val) 0#32) : BitVec 32) 0#32

section Runs

variable (P : Dev nD → Fin 4 → Blk F) (K : GSem nD τ sig → ℕ)
variable (c : Dev nD) (i : grid0.Coords) (sA : Memref sig .tc .vmem S2048x512 .bf16) (hA : sA.IsWhole)
  (sB : Memref sig .tc .vmem S1024x512 .bf16) (hB : sB.IsWhole)
variable {Q : PUnit.{1} → sProp (MT nD τ sig Unit (Elt F) ℕ UU ℕ)}

/-- The body at point `i` on staging buffers `sA`, `sB`. -/
abbrev body : Prog (TpuEff nD τ sig (Elt F) Λ₀ .tc) PUnit :=
  cc0__fused_body i (Memref.whole main_v5) (Memref.isWhole_whole _) sA hA sB hB oM (Memref.isWhole_whole _) aM (Memref.isWhole_whole _)
    pM (Memref.isWhole_whole _) xM (Memref.isWhole_whole _) cc0_scratch3 cc0_scratch4 cc0_scratch5 cc0_scratch6 cc0_scratch7

/-- The accumulator and the staged blocks. -/
def bufs (X : Vec F S2048x512 .bf16) (Y : Vec F S1024x512 .bf16) (f : Vec F S2048x1024 .f32) : sProp 𝕄 :=
  iprop(owns (c : Thread nD τ) sA fullShare X ∗ owns (c : Thread nD τ) sB fullShare Y ∗ owns (c : Thread nD τ) aM fullShare f)

theorem mul {X : Vec F S2048x512 .bf16} {Y : Vec F S1024x512 .bf16} {f : Vec F S2048x1024 .f32} {o1 o2 o3 : Fin 2 → ℕ}
    {e1 e2 e3 l1 l2 l3 l4 hx hm} (h1 : o1 = fun _ => 0) (h2 : o2 = fun _ => 0) (h3 : o3 = fun _ => 0) {k : PUnit → Prog (TpuEff nD τ sig (Elt F) Λ₀ .tc) PUnit} :
    bufs c sA sB X Y f
      ⊢ iprop((bufs c sA sB X Y (k0_pay9 X Y f) -∗ wp Idealize.ShloMosaic.frame (wpE defs₀ 𝒱₀ (c : Thread nD τ) none) Set.univ (k ⟨⟩) Q)
        -∗ wp Idealize.ShloMosaic.frame (wpE defs₀ 𝒱₀ (c : Thread nD τ) none) Set.univ
          (.op (.load sA (Rect.unit (s := S2048x512) o1 S2048x512.size e1).toLoadRect l1) fun v14 =>
            .op (.load sB (Rect.unit (s := S1024x512) o2 S1024x512.size e2).toLoadRect l2) fun v16 =>
            .op (.load aM (Rect.unit (s := S2048x1024) o3 S2048x1024.size e3).toLoadRect l3) fun v18 =>
            .op (.load aM (Rect.unit (s := S2048x1024) o3 S2048x1024.size e3).toLoadRect l4) fun _ =>
            .op (.store aM (Rect.unit (s := S2048x1024) o3 S2048x1024.size e3) (k0_pay9 v14 v16 v18) Finset.univ hx hm) k) Q) := by
  unfold bufs
  iintro ⟨HA, HB, Ha⟩ Hk
  iapply (load_all 𝒱₀ c none sA h1) $$ HA
  iintro HA
  iapply (load_all 𝒱₀ c none sB h2) $$ HB
  iintro HB
  iapply (load_all 𝒱₀ c none aM h3) $$ Ha
  iintro Ha
  iapply (load_all 𝒱₀ c none aM h3) $$ Ha
  iintro Ha
  iapply (store_all 𝒱₀ c none aM h3) $$ Ha
  iintro Ha
  iapply Hk
  isplitl [HA]; · iexact HA
  isplitl [HB]; · iexact HB
  iexact Ha

theorem clear {X : Vec F S2048x512 .bf16} {Y : Vec F S1024x512 .bf16} {f g : Vec F S2048x1024 .f32} {o3 : Fin 2 → ℕ}
    {e3 l3 hx hm} (h3 : o3 = fun _ => 0) {k : PUnit → Prog (TpuEff nD τ sig (Elt F) Λ₀ .tc) PUnit} :
    bufs c sA sB X Y f
      ⊢ iprop((bufs c sA sB X Y g -∗ wp Idealize.ShloMosaic.frame (wpE defs₀ 𝒱₀ (c : Thread nD τ) none) Set.univ (k ⟨⟩) Q)
        -∗ wp Idealize.ShloMosaic.frame (wpE defs₀ 𝒱₀ (c : Thread nD τ) none) Set.univ
          (.op (.load aM (Rect.unit (s := S2048x1024) o3 S2048x1024.size e3).toLoadRect l3) fun _ =>
            .op (.store aM (Rect.unit (s := S2048x1024) o3 S2048x1024.size e3) g Finset.univ hx hm) k) Q) := by
  unfold bufs
  iintro ⟨HA, HB, Ha⟩ Hk
  iapply (load_all 𝒱₀ c none aM h3) $$ Ha
  iintro Ha
  iapply (store_all 𝒱₀ c none aM h3) $$ Ha
  iintro Ha
  iapply Hk
  isplitl [HA]; · iexact HA
  isplitl [HB]; · iexact HB
  iexact Ha

theorem peek {X : Vec F S2048x512 .bf16} {Y : Vec F S1024x512 .bf16} {f : Vec F S2048x1024 .f32} {o3 : Fin 2 → ℕ}
    {e3 l3} (h3 : o3 = fun _ => 0) {k : Vec F S2048x1024 .f32 → Prog (TpuEff nD τ sig (Elt F) Λ₀ .tc) PUnit} :
    bufs c sA sB X Y f
      ⊢ iprop((bufs c sA sB X Y f -∗ wp Idealize.ShloMosaic.frame (wpE defs₀ 𝒱₀ (c : Thread nD τ) none) Set.univ (k f) Q)
        -∗ wp Idealize.ShloMosaic.frame (wpE defs₀ 𝒱₀ (c : Thread nD τ) none) Set.univ
          (.op (.load aM (Rect.unit (s := S2048x1024) o3 S2048x1024.size e3).toLoadRect l3) k) Q) := by
  unfold bufs
  iintro ⟨HA, HB, Ha⟩ Hk
  iapply (load_all 𝒱₀ c none aM h3) $$ Ha
  iintro Ha
  iapply Hk
  isplitl [HA]; · iexact HA
  isplitl [HB]; · iexact HB
  iexact Ha

variable {X : Vec F S2048x512 .bf16} {Y : Vec F S1024x512 .bf16} {f : Vec F S2048x1024 .f32}

theorem ow_done (c : Dev nD) : ow (F := F) c (owe c 4 ((3 : Fin 4).val + 1)) ⊢ (ow (F := F) c 0 : sProp 𝕄) :=
  Entails.of_eq (congrArg (ow (F := F) c) (owe_done c))

theorem N_at (off : Fin 2 → ℕ) (inb : ∀ a, off a + S2048x1024.size a ≤ S4096x4096.size a) (h1) :
    (oM.slice (Rect.unit (s := S4096x4096) off S2048x1024.size inb) h1 : Memref sig .tc .hbm S2048x1024 .bf16).view.dmaCredit = N := rfl

theorem pay_push (p : Fin 4) (h : truncf .bf16 f bitsLt_bf16_f32 = P c p) {w : S1x2048x1024.Idx → Elt F .bf16}
    (hw : w = box (truncf .bf16 f bitsLt_bf16_f32)) : unbox w = P c p := by rw [hw, unbox_box, h]

theorem pay_red (X Y : Blk F) {w : S1x2048x1024.Idx → Elt F .bf16} (hw : w = box (red (unbox (box X)) (unbox (box Y)))) : unbox w = red X Y := by
  rw [hw, unbox_box, unbox_box, unbox_box]

/-- A step in the middle of a column block. -/
theorem run_mid (n1 : ¬ k0_cond1 i = 1#1) (n2 : ¬ first i = 1#1) (n3 : ¬ k0_cond3 i = 1#1) (n4 : ¬ k0_cond4 i = 1#1) (n5 : ¬ k0_cond5 i = 1#1) (n6 : ¬ k0_cond6 i = 1#1) :
    iprop(bufs c sA sB X Y f
        ∗ (bufs c sA sB X Y (k0_pay9 X Y f) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton]
  unfold k0_part12_skel
  simp only [dif_neg n1, dif_neg n2, dif_neg n3, dif_neg n4, dif_neg n5, dif_neg n6, semSignalWord, semWaitWord, Prog.lift, Prog.bind_op, Prog.bind_ret, Prog.pure_eq_ret, Prog.bind_assoc, wp_deviceId]
  iintro ⟨Hb, Hk⟩
  iapply (mul c sA sB zero2 zero2 zero2) $$ Hb
  iintro Hb
  rw [wp_ret]; imodintro
  iapply Hk
  iexact Hb

/-- The first step of a column block. -/
theorem run_new (n1 : ¬ k0_cond1 i = 1#1) (n2 : first i = 1#1) (n3 : ¬ k0_cond3 i = 1#1) (n4 : ¬ k0_cond4 i = 1#1) (n5 : ¬ k0_cond5 i = 1#1) (n6 : ¬ k0_cond6 i = 1#1) :
    iprop(bufs c sA sB X Y f
        ∗ (bufs c sA sB X Y (k0_pay9 X Y (k0_pay8 (F := F))) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton]
  unfold k0_part12_skel
  simp only [dif_neg n1, dif_pos n2, dif_neg n3, dif_neg n4, dif_neg n5, dif_neg n6, semSignalWord, semWaitWord, Prog.lift, Prog.bind_op, Prog.bind_ret, Prog.pure_eq_ret, Prog.bind_assoc, wp_deviceId]
  iintro ⟨Hb, Hk⟩
  iapply (clear c sA sB zero2) $$ Hb
  iintro Hb
  iapply (mul c sA sB zero2 zero2 zero2) $$ Hb
  iintro Hb
  rw [wp_ret]; imodintro
  iapply Hk
  iexact Hb

/-- The first step of all: the barrier. -/
theorem run_start (n1 : k0_cond1 i = 1#1) (n2 : first i = 1#1) (n3 : ¬ k0_cond3 i = 1#1) (n4 : ¬ k0_cond4 i = 1#1) (n5 : ¬ k0_cond5 i = 1#1) (n6 : ¬ k0_cond6 i = 1#1) :
    iprop(Inv P K ∗ levAts L lv ∗ bufs c sA sB X Y f ∗ bigSep Finset.univ (stFresh (F := F) c) ∗ barStart (F := F) c ∗ ow (F := F) c (owe0 c)
        ∗ (bufs c sA sB X Y (k0_pay9 X Y (k0_pay8 (F := F))) ∗ bigSep Finset.univ (stReady (F := F) c) ∗ zero (F := F) (barC c) ∗ ow (F := F) c (owe c 0 0) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton]
  unfold k0_part12_skel
  simp only [dif_pos n1, dif_pos n2, dif_neg n3, dif_neg n4, dif_neg n5, dif_neg n6, semSignalWord, semWaitWord, Prog.lift, Prog.bind_op, Prog.bind_ret, Prog.pure_eq_ret, Prog.bind_assoc, wp_deviceId]
  iintro ⟨#HI, #Hlev, Hb, Hst, Hbar, HO, Hk⟩
  iapply (barrier P K c (dev1 c _) (dev2 c _)) $$ [Hst Hbar HO]
  · isplitr; · iexact HI
    isplitr; · iexact Hlev
    isplitl [Hst]; · iexact Hst
    isplitl [Hbar]; · iexact Hbar
    iexact HO
  iintro ⟨Hst, Hz, HO⟩
  iapply (clear c sA sB zero2) $$ Hb
  iintro Hb
  iapply (mul c sA sB zero2 zero2 zero2) $$ Hb
  iintro Hb
  rw [wp_ret]; imodintro
  iapply Hk
  isplitl [Hb]; · iexact Hb
  isplitl [Hst]; · iexact Hst
  isplitl [Hz]; · iexact Hz
  iexact HO

/-- The last step of column block 0: its partial product is sent. -/
theorem run_0 (n1 : ¬ k0_cond1 i = 1#1) (n2 : ¬ first i = 1#1) (n3 : k0_cond3 i = 1#1) (n4 : ¬ k0_cond4 i = 1#1) (n5 : ¬ k0_cond5 i = 1#1) (n6 : ¬ k0_cond6 i = 1#1)
    (hP : truncf .bf16 (k0_pay9 X Y f) bitsLt_bf16_f32 = P c 0) :
    iprop(Inv P K ∗ bufs c sA sB X Y f ∗ stReady (F := F) c 0 ∗ ow (F := F) c (owe c 0 0)
        ∗ (bufs c sA sB X Y (k0_pay9 X Y f) ∗ stSent (F := F) c 0 ∗ ow (F := F) c (owe c 1 0) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton]
  unfold k0_part12_skel
  simp only [dif_neg n1, dif_neg n2, dif_pos n3, dif_neg n4, dif_neg n5, dif_neg n6, semSignalWord, semWaitWord, Prog.lift, Prog.bind_op, Prog.bind_ret, Prog.pure_eq_ret, Prog.bind_assoc, wp_deviceId]
  iintro ⟨#HI, Hb, Hn, HO, Hk⟩
  iapply (mul c sA sB zero2 zero2 zero2) $$ Hb
  iintro Hb
  iapply (peek c sA sB zero2) $$ Hb
  iintro Hb
  iapply (push P K c 0 rfl rfl (dev3 c _) rfl rfl (pay_push P c 0 hP rfl)) $$ [Hn HO]
  · isplitr; · iexact HI
    isplitl [Hn]; · iexact Hn
    iexact HO
  iintro ⟨Hn, HO⟩
  rw [wp_ret]; imodintro
  iapply Hk
  isplitl [Hb]; · iexact Hb
  isplitl [Hn]; · iexact Hn
  iexact HO

/-- The last step of column block 1: its partial product is sent, block 0's reduced. -/
theorem run_1 (n1 : ¬ k0_cond1 i = 1#1) (n2 : ¬ first i = 1#1) (n3 : ¬ k0_cond3 i = 1#1) (n4 : k0_cond4 i = 1#1) (n5 : ¬ k0_cond5 i = 1#1) (n6 : ¬ k0_cond6 i = 1#1)
    (hP : truncf .bf16 (k0_pay9 X Y f) bitsLt_bf16_f32 = P c 1) :
    iprop(Inv P K ∗ levAts L lv ∗ bufs c sA sB X Y f ∗ stReady (F := F) c 1 ∗ stSent (F := F) c 0 ∗ ow (F := F) c (owe c 1 0)
        ∗ (bufs c sA sB X Y (k0_pay9 X Y f) ∗ stSent (F := F) c 1 ∗ stReduced (F := F) c 0 ∗ ow (F := F) c (owe c 2 1) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton, k0_part1_eq_skeleton, k0_part2_eq_skeleton]
  unfold k0_part12_skel k0_part1_skel k0_part2_skel
  simp only [dif_neg n1, dif_neg n2, dif_neg n3, dif_pos n4, dif_neg n5, dif_neg n6, semSignalWord, semWaitWord, Prog.lift, Prog.bind_op, Prog.bind_ret, Prog.pure_eq_ret, Prog.bind_assoc, wp_deviceId]
  iintro ⟨#HI, #Hlev, Hb, Hn, Hr, HO, Hk⟩
  iapply (mul c sA sB zero2 zero2 zero2) $$ Hb
  iintro Hb
  iapply (peek c sA sB zero2) $$ Hb
  iintro Hb
  iapply (push P K c 1 rfl rfl (dev4 c _) rfl rfl (pay_push P c 1 hP rfl)) $$ [Hn HO]
  · isplitr; · iexact HI
    isplitl [Hn]; · iexact Hn
    iexact HO
  iintro ⟨Hn, HO⟩
  iapply (reduce P K c 0 (a := 2) (by decide) (N_pM' 0) (N_xM' 0) rfl rfl (fun X Y => pay_red X Y rfl) rfl rfl
      (oblk_at (yy c) 0 _ (k0_off1_eq c) _ _) (oblk_at (yy c) 0 _ (k0_off1_eq c) _ _) (dev5 c _) rfl rfl rfl) $$ [Hr HO]
  · isplitr; · iexact HI
    isplitr; · iexact Hlev
    isplitl [Hr]; · iexact Hr
    iexact HO
  iintro ⟨Hr, HO⟩
  rw [wp_ret]; imodintro
  iapply Hk
  isplitl [Hb]; · iexact Hb
  isplitl [Hn]; · iexact Hn
  isplitl [Hr]; · iexact Hr
  iexact HO

/-- The last step of column block 2: its partial product is sent, block 1's reduced. -/
theorem run_2 (n1 : ¬ k0_cond1 i = 1#1) (n2 : ¬ first i = 1#1) (n3 : ¬ k0_cond3 i = 1#1) (n4 : ¬ k0_cond4 i = 1#1) (n5 : k0_cond5 i = 1#1) (n6 : ¬ k0_cond6 i = 1#1)
    (hP : truncf .bf16 (k0_pay9 X Y f) bitsLt_bf16_f32 = P c 2) :
    iprop(Inv P K ∗ levAts L lv ∗ bufs c sA sB X Y f ∗ stReady (F := F) c 2 ∗ stSent (F := F) c 1 ∗ ow (F := F) c (owe c 2 1)
        ∗ (bufs c sA sB X Y (k0_pay9 X Y f) ∗ stSent (F := F) c 2 ∗ stReduced (F := F) c 1 ∗ ow (F := F) c (owe c 3 2) -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton, k0_part3_eq_skeleton, k0_part4_eq_skeleton]
  unfold k0_part12_skel k0_part3_skel k0_part4_skel
  simp only [dif_neg n1, dif_neg n2, dif_neg n3, dif_neg n4, dif_pos n5, dif_neg n6, semSignalWord, semWaitWord, Prog.lift, Prog.bind_op, Prog.bind_ret, Prog.pure_eq_ret, Prog.bind_assoc, wp_deviceId]
  iintro ⟨#HI, #Hlev, Hb, Hn, Hr, HO, Hk⟩
  iapply (mul c sA sB zero2 zero2 zero2) $$ Hb
  iintro Hb
  iapply (peek c sA sB zero2) $$ Hb
  iintro Hb
  iapply (push P K c 2 rfl rfl (dev6 c _) rfl rfl (pay_push P c 2 hP rfl)) $$ [Hn HO]
  · isplitr; · iexact HI
    isplitl [Hn]; · iexact Hn
    iexact HO
  iintro ⟨Hn, HO⟩
  iapply (reduce P K c 1 (a := 3) (by decide) (N_pM' 1) (N_xM' 1) rfl rfl (fun X Y => pay_red X Y rfl) rfl rfl
      (oblk_at (yy c) 1 _ (k0_off2_eq c) _ _) (oblk_at (yy c) 1 _ (k0_off2_eq c) _ _) (dev7 c _) rfl rfl rfl) $$ [Hr HO]
  · isplitr; · iexact HI
    isplitr; · iexact Hlev
    isplitl [Hr]; · iexact Hr
    iexact HO
  iintro ⟨Hr, HO⟩
  rw [wp_ret]; imodintro
  iapply Hk
  isplitl [Hb]; · iexact Hb
  isplitl [Hn]; · iexact Hn
  isplitl [Hr]; · iexact Hr
  iexact HO

/-- The last step of all: the last partial product is sent, the last two blocks reduced, and everything waited for. -/
theorem run_3 (n1 : ¬ k0_cond1 i = 1#1) (n2 : ¬ first i = 1#1) (n3 : ¬ k0_cond3 i = 1#1) (n4 : ¬ k0_cond4 i = 1#1) (n5 : ¬ k0_cond5 i = 1#1) (n6 : k0_cond6 i = 1#1)
    (hP : truncf .bf16 (k0_pay9 X Y f) bitsLt_bf16_f32 = P c 3) :
    iprop(Inv P K ∗ levAts L lv ∗ bufs c sA sB X Y f ∗ stReady (F := F) c 3 ∗ stSent (F := F) c 2 ∗ stReduced (F := F) c 0 ∗ stReduced (F := F) c 1 ∗ ow (F := F) c (owe c 3 2)
        ∗ (bufs c sA sB X Y (k0_pay9 X Y f) ∗ stDone P c 0 ∗ stDone P c 1 ∗ stDone P c 2 ∗ stDone P c 3 ∗ ow (F := F) c 0 -∗ Q ⟨⟩))
      ⊢ wp Idealize.ShloMosaic.frame (wpE defs₀ 𝒱₀ (c : Thread nD τ) none) Set.univ (body (F := F) i sA hA sB hB) Q := by
  unfold body
  simp only [cc0__fused_body_eq_skeleton]
  unfold cc0__fused_body_skel
  simp only [k0_part12_eq_skeleton, k0_part5_eq_skeleton, k0_part6_eq_skeleton, k0_part7_eq_skeleton, k0_part8_eq_skeleton, k0_part9_eq_skeleton, k0_part10_eq_skeleton, k0_part11_eq_skeleton]
  unfold k0_part12_skel k0_part5_skel k0_part6_skel k0_part7_skel k0_part8_skel k0_part9_skel k0_part10_skel k0_part11_skel
  simp only [dif_neg n1, dif_neg n2, dif_neg n3, dif_neg n4, dif_neg n5, dif_pos n6, semSignalWord, semWaitWord, Prog.lift, Prog.bind_op, Prog.bind_ret, Prog.pure_eq_ret, Prog.bind_assoc, wp_deviceId]
  iintro ⟨#HI, #Hlev, Hb, Hn, Hr, Hs0, Hs1, HO, Hk⟩
  iapply (mul c sA sB zero2 zero2 zero2) $$ Hb
  iintro Hb
  iapply (peek c sA sB zero2) $$ Hb
  iintro Hb
  iapply (push P K c 3 rfl rfl (dev8 c _) rfl rfl (pay_push P c 3 hP rfl)) $$ [Hn HO]
  · isplitr; · iexact HI
    isplitl [Hn]; · iexact Hn
    iexact HO
  iintro ⟨Hn, HO⟩
  iapply (reduce P K c 2 (a := 4) (by decide) (N_pM' 2) (N_xM' 2) rfl rfl (fun X Y => pay_red X Y rfl) rfl rfl
      (oblk_at (yy c) 2 _ (k0_off3_eq c) _ _) (oblk_at (yy c) 2 _ (k0_off3_eq c) _ _) (dev9 c _) rfl rfl rfl) $$ [Hr HO]
  · isplitr; · iexact HI
    isplitr; · iexact Hlev
    isplitl [Hr]; · iexact Hr
    iexact HO
  iintro ⟨Hr, HO⟩
  iapply (reduce P K c 3 (a := 4) (by decide) (N_pM' 3) (N_xM' 3) rfl rfl (fun X Y => pay_red X Y rfl) rfl rfl
      (oblk_at (yy c) 3 _ (k0_off4_eq c) _ _) (oblk_at (yy c) 3 _ (k0_off4_eq c) _ _) (dev10 c _) rfl rfl rfl) $$ [Hn HO]
  · isplitr; · iexact HI
    isplitr; · iexact Hlev
    isplitl [Hn]; · iexact Hn
    iexact HO
  iintro ⟨Hn, HO⟩
  ihave HO := (ow_done c) $$ HO
  iapply (finish P K c 0 (N_pM' 0) (N_at _ _ _) (N_at _ _ _) rfl rfl rfl) $$ [Hs0 HO]
  · isplitr; · iexact HI
    isplitl [Hs0]; · iexact Hs0
    iexact HO
  iintro ⟨Hs0, HO⟩
  iapply (finish P K c 1 (N_pM' 1) (N_at _ _ _) (N_at _ _ _) rfl rfl rfl) $$ [Hs1 HO]
  · isplitr; · iexact HI
    isplitl [Hs1]; · iexact Hs1
    iexact HO
  iintro ⟨Hs1, HO⟩
  iapply (finish P K c 2 (N_pM' 2) (N_at _ _ _) (N_at _ _ _) rfl rfl rfl) $$ [Hr HO]
  · isplitr; · iexact HI
    isplitl [Hr]; · iexact Hr
    iexact HO
  iintro ⟨Hr, HO⟩
  iapply (finish P K c 3 (N_pM' 3) (N_at _ _ _) (N_at _ _ _) rfl rfl rfl) $$ [Hn HO]
  · isplitr; · iexact HI
    isplitl [Hn]; · iexact Hn
    iexact HO
  iintro ⟨Hn, HO⟩
  rw [wp_ret]; imodintro
  iapply Hk
  isplitl [Hb]; · iexact Hb
  isplitl [Hs0]; · iexact Hs0
  isplitl [Hs1]; · iexact Hs1
  isplitl [Hr]; · iexact Hr
  isplitl [Hn]; · iexact Hn
  iexact HO

end Runs

end Cert.KernelIdeal.Swap
-- ==== Proof.Body.lean ====
/-
# The body at a grid point

Each point of the grid takes the invariant before it to the invariant after it.
-/
module

public import proofs.«01_k».proof.Proof.Data
public import proofs.«01_k».proof.Proof.Steps2

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Which run a point takes. -/
structure Conds (n : ℕ) (i : grid0.Coords) : Prop where
  c1 : k0_cond1 i = 1#1 ↔ n = 0
  c2 : first i = 1#1 ↔ n % 16 = 0
  c3 : k0_cond3 i = 1#1 ↔ n = 15
  c4 : k0_cond4 i = 1#1 ↔ n = 31
  c5 : k0_cond5 i = 1#1 ↔ n = 47
  c6 : k0_cond6 i = 1#1 ↔ n = 63

theorem conds (t : Fin grid0.N) : Conds t.val (grid0.coords t) := by
  have h : ∀ t : Fin grid0.N, (k0_cond1 (grid0.coords t) = 1#1 ↔ t.val = 0) ∧ (first (grid0.coords t) = 1#1 ↔ t.val % 16 = 0)
      ∧ (k0_cond3 (grid0.coords t) = 1#1 ↔ t.val = 15) ∧ (k0_cond4 (grid0.coords t) = 1#1 ↔ t.val = 31)
      ∧ (k0_cond5 (grid0.coords t) = 1#1 ↔ t.val = 47) ∧ (k0_cond6 (grid0.coords t) = 1#1 ↔ t.val = 63) := by decide +kernel
  obtain ⟨a, b, d, e, f, g⟩ := h t
  exact ⟨a, b, d, e, f, g⟩

variable (m : (ℓ : Loc nD τ sig) → Buf (Elt F) ℓ)

section Same

variable {n : ℕ} (h0 : 0 < n) (h1 : (n + 1) % 16 ≠ 0) (h2 : n < 64) (c : Dev nD)
include h0 h1 h2

theorem stAt_same (p : Fin 4) : stAt m (n + 1) c p = stAt m n c p := by
  unfold stAt
  rw [if_neg (by omega : ¬ n + 1 = 0), if_neg (by omega : ¬ n + 1 = 64), if_neg (by omega : ¬ n = 0), if_neg (by omega : ¬ n = 64), show (n + 1) / 16 = n / 16 by omega]
theorem barAt_same : barAt (F := F) (n + 1) c = barAt (F := F) n c := by
  unfold barAt
  rw [if_neg (by omega : ¬ n + 1 = 0), if_neg (by omega : ¬ n = 0)]
theorem oweAt_same : oweAt (n + 1) c = oweAt n c := by
  unfold oweAt
  rw [if_neg (by omega : ¬ n + 1 = 0), if_neg (by omega : ¬ n + 1 = 64), if_neg (by omega : ¬ n = 0), if_neg (by omega : ¬ n = 64), show (n + 1) / 16 = n / 16 by omega]

end Same

section Step

variable (c : Dev nD) (i : grid0.Coords) (sA : Memref sig .tc .vmem S2048x512 .bf16) (hA : sA.IsWhole)
  (sB : Memref sig .tc .vmem S1024x512 .bf16) (hB : sB.IsWhole)

theorem acc_open (n : ℕ) : accAt m n c ⊢ iprop(∃ f : Vec F S2048x1024 .f32, ⌜n % 16 ≠ 0 → f = acc m c (n / 16) (n % 16)⌝ ∗ owns (c : Thread nD τ) aM fullShare f) :=
  Entails.of_eq rfl

/-- The accumulator after a point. -/
theorem acc_next (n : ℕ) {f : Vec F S2048x1024 .f32} (hf : f = acc m c (n / 16) (n % 16)) :
    iprop(owns (c : Thread nD τ) aM fullShare (k0_pay9 (dyB m c (n % 16)) (wB m c (n / 16) (n % 16)) f)) ⊢ accAt m (n + 1) c := by
  unfold accAt
  iintro H
  iexists _
  isplitr; swap; · iexact H
  ipureintro
  intro h
  subst hf
  rw [show (n + 1) / 16 = n / 16 by omega, show (n + 1) % 16 = n % 16 + 1 by omega]
  rfl

/-- What the body has at point `n`. -/
def before (n : ℕ) : sProp 𝕄 :=
  iprop(inv m n c ∗ ow (F := F) c (oweAt n c) ∗ owns (c : Thread nD τ) sA fullShare (dyB m c (n % 16)) ∗ owns (c : Thread nD τ) sB fullShare (wB m c (n / 16) (n % 16)))

/-- And leaves. -/
def left (n : ℕ) : sProp 𝕄 :=
  iprop(inv m (n + 1) c ∗ ow (F := F) c (oweAt (n + 1) c) ∗ owns (c : Thread nD τ) sA fullShare (dyB m c (n % 16)) ∗ owns (c : Thread nD τ) sB fullShare (wB m c (n / 16) (n % 16)))

theorem step_mid (n : ℕ) (hn : n < 64) (h : Conds n i) (k0 : n % 16 ≠ 0) (k15 : n % 16 ≠ 15) :
    before m c sA sB n ⊢ wp Idealize.ShloMosaic.frame (wpE defs₀ 𝒱₀ (c : Thread nD τ) none) Set.univ (body (F := F) i sA hA sB hB) (fun _ => left m c sA sB n) := by
  unfold before left inv
  rw [barAt_same (by omega) (by omega) hn, oweAt_same (by omega) (by omega) hn, funext (stAt_same m (by omega : 0 < n) (by omega) hn c)]
  iintro ⟨⟨HI, Hlev, Hst, Ha, Hbar⟩, HO, HA, HB⟩
  ihave Ha := (acc_open m c _) $$ Ha
  icases Ha with ⟨%f, %hf, Ha⟩
  iapply (run_mid c i sA hA sB hB (X := dyB m c (n % 16)) (Y := wB m c (n / 16) (n % 16)) (f := f) (mt h.c1.mp (by omega)) (mt h.c2.mp (by omega)) (mt h.c3.mp (by omega)) (mt h.c4.mp (by omega))
    (mt h.c5.mp (by omega)) (mt h.c6.mp (by omega)))
  unfold bufs
  isplitl [HA HB Ha]
  · isplitl [HA]; · iexact HA
    isplitl [HB]; · iexact HB
    iexact Ha
  iintro ⟨HA, HB, Ha⟩
  isplitr [HO HA HB]
  · isplitl [HI]; · iexact HI
    isplitl [Hlev]; · iexact Hlev
    isplitl [Hst]; · iexact Hst
    isplitl [Ha]; · iapply (acc_next m c n (hf k0)) $$ Ha
    iexact Hbar
  isplitl [HO]; · iexact HO
  isplitl [HA]; · iexact HA
  iexact HB

theorem step_new (n : ℕ) (hn : n < 64) (h : Conds n i) (k0 : n % 16 = 0) (n0 : 0 < n) :
    before m c sA sB n ⊢ wp Idealize.ShloMosaic.frame (wpE defs₀ 𝒱₀ (c : Thread nD τ) none) Set.univ (body (F := F) i sA hA sB hB) (fun _ => left m c sA sB n) := by
  unfold before left inv
  rw [barAt_same (by omega) (by omega) hn, oweAt_same (by omega) (by omega) hn, funext (stAt_same m (by omega : 0 < n) (by omega) hn c)]
  iintro ⟨⟨HI, Hlev, Hst, Ha, Hbar⟩, HO, HA, HB⟩
  ihave Ha := (acc_open m c _) $$ Ha
  icases Ha with ⟨%f, %hf, Ha⟩
  iapply (run_new c i sA hA sB hB (X := dyB m c (n % 16)) (Y := wB m c (n / 16) (n % 16)) (f := f) (mt h.c1.mp (by omega)) (h.c2.mpr (by omega)) (mt h.c3.mp (by omega)) (mt h.c4.mp (by omega))
    (mt h.c5.mp (by omega)) (mt h.c6.mp (by omega)))
  unfold bufs
  isplitl [HA HB Ha]
  · isplitl [HA]; · iexact HA
    isplitl [HB]; · iexact HB
    iexact Ha
  iintro ⟨HA, HB, Ha⟩
  isplitr [HO HA HB]
  · isplitl [HI]; · iexact HI
    isplitl [Hlev]; · iexact Hlev
    isplitl [Hst]; · iexact Hst
    isplitl [Ha]; · iapply (acc_next m c n (f := k0_pay8 (F := F)) (by rw [k0]; rfl)) $$ Ha
    iexact Hbar
  isplitl [HO]; · iexact HO
  isplitl [HA]; · iexact HA
  iexact HB

theorem st0 : stAt m 0 c = stFresh (F := F) c := rfl
theorem st1 : stAt m (0 + 1) c = stReady (F := F) c := by
  funext p; unfold stAt; rw [if_neg (by decide), if_neg (by decide), if_pos (by omega)]

theorem bar0 : barAt (F := F) 0 c = barStart (F := F) c := rfl
theorem bar1 (n : ℕ) : barAt (F := F) (n + 1) c = zero (F := F) (barC c) := if_neg (Nat.succ_ne_zero n)
theorem owe_0 : oweAt 0 c = owe0 c := rfl
theorem owe_1 : oweAt (0 + 1) c = owe c 0 0 := rfl

theorem step_start (h : Conds 0 i) :
    before m c sA sB 0 ⊢ wp Idealize.ShloMosaic.frame (wpE defs₀ 𝒱₀ (c : Thread nD τ) none) Set.univ (body (F := F) i sA hA sB hB) (fun _ => left m c sA sB 0) := by
  unfold before left inv
  rw [st0, st1, bar0, bar1, owe_0, owe_1]
  iintro ⟨⟨⟨%K, #HI⟩, #Hlev, Hst, Ha, Hbar⟩, HO, HA, HB⟩
  ihave Ha := (acc_open m c _) $$ Ha
  icases Ha with ⟨%f, %hf, Ha⟩
  iapply (run_start (P m) K c i sA hA sB hB (X := dyB m c (0 % 16)) (Y := wB m c (0 / 16) (0 % 16)) (f := f) (h.c1.mpr rfl) (h.c2.mpr (by omega)) (mt h.c3.mp (by omega)) (mt h.c4.mp (by omega))
    (mt h.c5.mp (by omega)) (mt h.c6.mp (by omega)))
  unfold bufs
  isplitr; · iexact HI
  isplitr; · iexact Hlev
  isplitl [HA HB Ha]
  · isplitl [HA]; · iexact HA
    isplitl [HB]; · iexact HB
    iexact Ha
  isplitl [Hst]; · iexact Hst
  isplitl [Hbar]; · iexact Hbar
  isplitl [HO]; · iexact HO
  iintro ⟨⟨HA, HB, Ha⟩, Hst, Hz, HO⟩
  isplitr [HO HA HB]
  · isplitr; · iexists K; iexact HI
    isplitr; · iexact Hlev
    isplitl [Hst]; · iexact Hst
    isplitl [Ha]; · iapply (acc_next m c 0 (f := k0_pay8 (F := F)) rfl) $$ Ha
    iexact Hz
  isplitl [HO]; · iexact HO
  isplitl [HA]; · iexact HA
  iexact HB

theorem st15 : bigSep Finset.univ (stAt m 15 c) = iprop(stReady (F := F) c 0 ∗ stReady (F := F) c 1 ∗ stReady (F := F) c 2 ∗ stReady (F := F) c 3) := fin4 _
theorem st16 : bigSep Finset.univ (stAt m 16 c) = iprop(stSent (F := F) c 0 ∗ stReady (F := F) c 1 ∗ stReady (F := F) c 2 ∗ stReady (F := F) c 3) := fin4 _
theorem st31 : bigSep Finset.univ (stAt m 31 c) = iprop(stSent (F := F) c 0 ∗ stReady (F := F) c 1 ∗ stReady (F := F) c 2 ∗ stReady (F := F) c 3) := fin4 _
theorem st32 : bigSep Finset.univ (stAt m 32 c) = iprop(stReduced (F := F) c 0 ∗ stSent (F := F) c 1 ∗ stReady (F := F) c 2 ∗ stReady (F := F) c 3) := fin4 _
theorem st47 : bigSep Finset.univ (stAt m 47 c) = iprop(stReduced (F := F) c 0 ∗ stSent (F := F) c 1 ∗ stReady (F := F) c 2 ∗ stReady (F := F) c 3) := fin4 _
theorem st48 : bigSep Finset.univ (stAt m 48 c) = iprop(stReduced (F := F) c 0 ∗ stReduced (F := F) c 1 ∗ stSent (F := F) c 2 ∗ stReady (F := F) c 3) := fin4 _
theorem st63 : bigSep Finset.univ (stAt m 63 c) = iprop(stReduced (F := F) c 0 ∗ stReduced (F := F) c 1 ∗ stSent (F := F) c 2 ∗ stReady (F := F) c 3) := fin4 _
theorem st64 : bigSep Finset.univ (stAt m 64 c) = iprop(stDone (P m) c 0 ∗ stDone (P m) c 1 ∗ stDone (P m) c 2 ∗ stDone (P m) c 3) := fin4 _

theorem step_0 (h : Conds 15 i) :
    before m c sA sB 15 ⊢ wp Idealize.ShloMosaic.frame (wpE defs₀ 𝒱₀ (c : Thread nD τ) none) Set.univ (body (F := F) i sA hA sB hB) (fun _ => left m c sA sB 15) := by
  unfold before left inv
  rw [st15, st16]
  iintro ⟨⟨⟨%K, #HI⟩, #Hlev, ⟨S0, S1, S2, S3⟩, Ha, Hbar⟩, HO, HA, HB⟩
  ihave Ha := (acc_open m c _) $$ Ha
  icases Ha with ⟨%f, %hf, Ha⟩
  have hf' := hf (by decide)
  subst hf'
  iapply (run_0 (P m) K c i sA hA sB hB (X := dyB m c (15 % 16)) (Y := wB m c (15 / 16) (15 % 16)) (f := acc m c (15 / 16) (15 % 16)) (mt h.c1.mp (by omega)) (mt h.c2.mp (by omega)) (h.c3.mpr rfl) (mt h.c4.mp (by omega)) (mt h.c5.mp (by omega)) (mt h.c6.mp (by omega)) rfl)
  unfold bufs
  isplitr; · iexact HI
  isplitl [HA HB Ha]
  · isplitl [HA]; · iexact HA
    isplitl [HB]; · iexact HB
    iexact Ha
  isplitl [S0]; · iexact S0
  isplitl [HO]; · iexact HO
  iintro ⟨⟨HA, HB, Ha⟩, S0, HO⟩
  isplitr [HO HA HB]
  · isplitr; · iexists K; iexact HI
    isplitr; · iexact Hlev
    isplitl [S0 S1 S2 S3]
    · isplitl [S0]; · iexact S0
      isplitl [S1]; · iexact S1
      isplitl [S2]; · iexact S2
      iexact S3
    isplitl [Ha]; · iapply (acc_next m c 15 rfl) $$ Ha
    iexact Hbar
  isplitl [HO]; · iexact HO
  isplitl [HA]; · iexact HA
  iexact HB

theorem step_1 (h : Conds 31 i) :
    before m c sA sB 31 ⊢ wp Idealize.ShloMosaic.frame (wpE defs₀ 𝒱₀ (c : Thread nD τ) none) Set.univ (body (F := F) i sA hA sB hB) (fun _ => left m c sA sB 31) := by
  unfold before left inv
  rw [st31, st32]
  iintro ⟨⟨⟨%K, #HI⟩, #Hlev, ⟨S0, S1, S2, S3⟩, Ha, Hbar⟩, HO, HA, HB⟩
  ihave Ha := (acc_open m c _) $$ Ha
  icases Ha with ⟨%f, %hf, Ha⟩
  have hf' := hf (by decide)
  subst hf'
  iapply (run_1 (P m) K c i sA hA sB hB (X := dyB m c (31 % 16)) (Y := wB m c (31 / 16) (31 % 16)) (f := acc m c (31 / 16) (31 % 16)) (mt h.c1.mp (by omega)) (mt h.c2.mp (by omega)) (mt h.c3.mp (by omega)) (h.c4.mpr rfl) (mt h.c5.mp (by omega)) (mt h.c6.mp (by omega)) rfl)
  unfold bufs
  isplitr; · iexact HI
  isplitr; · iexact Hlev
  isplitl [HA HB Ha]
  · isplitl [HA]; · iexact HA
    isplitl [HB]; · iexact HB
    iexact Ha
  isplitl [S1]; · iexact S1
  isplitl [S0]; · iexact S0
  isplitl [HO]; · iexact HO
  iintro ⟨⟨HA, HB, Ha⟩, S1, S0, HO⟩
  isplitr [HO HA HB]
  · isplitr; · iexists K; iexact HI
    isplitr; · iexact Hlev
    isplitl [S0 S1 S2 S3]
    · isplitl [S0]; · iexact S0
      isplitl [S1]; · iexact S1
      isplitl [S2]; · iexact S2
      iexact S3
    isplitl [Ha]; · iapply (acc_next m c 31 rfl) $$ Ha
    iexact Hbar
  isplitl [HO]; · iexact HO
  isplitl [HA]; · iexact HA
  iexact HB

theorem step_2 (h : Conds 47 i) :
    before m c sA sB 47 ⊢ wp Idealize.ShloMosaic.frame (wpE defs₀ 𝒱₀ (c : Thread nD τ) none) Set.univ (body (F := F) i sA hA sB hB) (fun _ => left m c sA sB 47) := by
  unfold before left inv
  rw [st47, st48]
  iintro ⟨⟨⟨%K, #HI⟩, #Hlev, ⟨S0, S1, S2, S3⟩, Ha, Hbar⟩, HO, HA, HB⟩
  ihave Ha := (acc_open m c _) $$ Ha
  icases Ha with ⟨%f, %hf, Ha⟩
  have hf' := hf (by decide)
  subst hf'
  iapply (run_2 (P m) K c i sA hA sB hB (X := dyB m c (47 % 16)) (Y := wB m c (47 / 16) (47 % 16)) (f := acc m c (47 / 16) (47 % 16)) (mt h.c1.mp (by omega)) (mt h.c2.mp (by omega)) (mt h.c3.mp (by omega)) (mt h.c4.mp (by omega)) (h.c5.mpr rfl) (mt h.c6.mp (by omega)) rfl)
  unfold bufs
  isplitr; · iexact HI
  isplitr; · iexact Hlev
  isplitl [HA HB Ha]
  · isplitl [HA]; · iexact HA
    isplitl [HB]; · iexact HB
    iexact Ha
  isplitl [S2]; · iexact S2
  isplitl [S1]; · iexact S1
  isplitl [HO]; · iexact HO
  iintro ⟨⟨HA, HB, Ha⟩, S2, S1, HO⟩
  isplitr [HO HA HB]
  · isplitr; · iexists K; iexact HI
    isplitr; · iexact Hlev
    isplitl [S0 S1 S2 S3]
    · isplitl [S0]; · iexact S0
      isplitl [S1]; · iexact S1
      isplitl [S2]; · iexact S2
      iexact S3
    isplitl [Ha]; · iapply (acc_next m c 47 rfl) $$ Ha
    iexact Hbar
  isplitl [HO]; · iexact HO
  isplitl [HA]; · iexact HA
  iexact HB

theorem step_3 (h : Conds 63 i) :
    before m c sA sB 63 ⊢ wp Idealize.ShloMosaic.frame (wpE defs₀ 𝒱₀ (c : Thread nD τ) none) Set.univ (body (F := F) i sA hA sB hB) (fun _ => left m c sA sB 63) := by
  unfold before left inv
  rw [st63, st64]
  iintro ⟨⟨⟨%K, #HI⟩, #Hlev, ⟨S0, S1, S2, S3⟩, Ha, Hbar⟩, HO, HA, HB⟩
  ihave Ha := (acc_open m c _) $$ Ha
  icases Ha with ⟨%f, %hf, Ha⟩
  have hf' := hf (by decide)
  subst hf'
  iapply (run_3 (P m) K c i sA hA sB hB (X := dyB m c (63 % 16)) (Y := wB m c (63 / 16) (63 % 16)) (f := acc m c (63 / 16) (63 % 16)) (mt h.c1.mp (by omega)) (mt h.c2.mp (by omega)) (mt h.c3.mp (by omega)) (mt h.c4.mp (by omega)) (mt h.c5.mp (by omega)) (h.c6.mpr rfl) rfl)
  unfold bufs
  isplitr; · iexact HI
  isplitr; · iexact Hlev
  isplitl [HA HB Ha]
  · isplitl [HA]; · iexact HA
    isplitl [HB]; · iexact HB
    iexact Ha
  isplitl [S3]; · iexact S3
  isplitl [S2]; · iexact S2
  isplitl [S0]; · iexact S0
  isplitl [S1]; · iexact S1
  isplitl [HO]; · iexact HO
  iintro ⟨⟨HA, HB, Ha⟩, S0, S1, S2, S3, HO⟩
  isplitr [HO HA HB]
  · isplitr; · iexists K; iexact HI
    isplitr; · iexact Hlev
    isplitl [S0 S1 S2 S3]
    · isplitl [S0]; · iexact S0
      isplitl [S1]; · iexact S1
      isplitl [S2]; · iexact S2
      iexact S3
    isplitl [Ha]; · iapply (acc_next m c 63 rfl) $$ Ha
    iexact Hbar
  isplitl [HO]; · iexact HO
  isplitl [HA]; · iexact HA
  iexact HB

theorem step (n : ℕ) (hn : n < 64) (h : Conds n i) :
    before m c sA sB n ⊢ wp Idealize.ShloMosaic.frame (wpE defs₀ 𝒱₀ (c : Thread nD τ) none) Set.univ (body (F := F) i sA hA sB hB) (fun _ => left m c sA sB n) := by
  by_cases k0 : n % 16 = 0
  · rcases Nat.eq_zero_or_pos n with rfl | n0
    · exact step_start m c i sA hA sB hB h
    · exact step_new m c i sA hA sB hB n hn h k0 n0
  by_cases k15 : n % 16 = 15
  · have hc : n = 15 ∨ n = 31 ∨ n = 47 ∨ n = 63 := by omega
    rcases hc with rfl | rfl | rfl | rfl
    · exact step_0 m c i sA hA sB hB h
    · exact step_1 m c i sA hA sB hB h
    · exact step_2 m c i sA hA sB hB h
    · exact step_3 m c i sA hA sB hB h
  · exact step_mid m c i sA hA sB hB n hn h k0 k15

end Step

/-! ## The pipeline's body obligation -/

theorem owesAt_ow (c : Dev nD) (t : Fin (grid0.N + 1)) : ((dat m c).owesAt () t : sProp 𝕄) ⊢ ow (F := F) c (oweAt t.val c) := by
  unfold Pipeline.Dat.owesAt Pipeline.owesWithin
  iintro ⟨%W, -, HO⟩; iexists W; iexact HO

theorem ow_owesAt (c : Dev nD) (t : Fin (grid0.N + 1)) : ow (F := F) c (oweAt t.val c) ⊢ ((dat m c).owesAt () t : sProp 𝕄) := by
  unfold Pipeline.Dat.owesAt Pipeline.owesWithin Pipeline.Dat.bound
  iintro ⟨%W, HO⟩; iexists W; isplitr; · ipureintro; exact fun _ _ => Or.inl trivial
  iexact HO

end Cert.KernelIdeal.Swap
-- ==== Proof.BodyOk.lean ====
/-
# The pipeline's body obligation
-/
module

public import proofs.«01_k».proof.Proof.Body

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- The obligation's premise is what the body has at the point, -/
theorem pre_ok (c : Dev nD) (t : Fin grid0.N) :
    iprop((dat m c).Φ t.castSucc ∗ (dat m c).owesAt () t.castSucc
        ∗ (∃ d, owns (c : Thread nD τ) (((cfgD (F := F) c).win 0).stage ((cfgD (F := F) c).slots t 0)) fullShare ((dat m c).before 0 t d))
        ∗ (∃ d, owns (c : Thread nD τ) (((cfgD (F := F) c).win 1).stage ((cfgD (F := F) c).slots t 1)) fullShare ((dat m c).before 1 t d)))
      ⊢ iprop(before m c (((cfgD (F := F) c).win 0).stage ((cfgD (F := F) c).slots t 0)) (((cfgD (F := F) c).win 1).stage ((cfgD (F := F) c).slots t 1)) t.val
        ∗ tabHeld (F := F) c) := by
  rw [show (dat m c).Φ t.castSucc = iprop(inv m t.val c ∗ tabHeld (F := F) c) from rfl]
  unfold before
  iintro ⟨⟨Hinv, Htab⟩, HO, ⟨%d0, HA⟩, ⟨%d1, HB⟩⟩
  ihave HO := (owesAt_ow m c t.castSucc) $$ HO
  isplitr [Htab]; swap; · iexact Htab
  isplitl [Hinv]; · iexact Hinv
  isplitl [HO]; · iexact HO
  isplitl [HA]; · iapply (Entails.of_eq (congrArg (owns _ _ _) (before0 m c t d0))); iexact HA
  iapply (Entails.of_eq (congrArg (owns _ _ _) (before1 m c t d1))); iexact HB

/-- and what it leaves is the conclusion. -/
theorem post_ok (c : Dev nD) (t : Fin grid0.N) :
    iprop(left m c (((cfgD (F := F) c).win 0).stage ((cfgD (F := F) c).slots t 0)) (((cfgD (F := F) c).win 1).stage ((cfgD (F := F) c).slots t 1)) t.val
        ∗ tabHeld (F := F) c)
      ⊢ iprop((dat m c).Φ t.succ ∗ (dat m c).owesAt () t.succ
        ∗ owns (c : Thread nD τ) (((cfgD (F := F) c).win 0).stage ((cfgD (F := F) c).slots t 0)) fullShare ((dat m c).after 0 t)
        ∗ owns (c : Thread nD τ) (((cfgD (F := F) c).win 1).stage ((cfgD (F := F) c).slots t 1)) fullShare ((dat m c).after 1 t)) := by
  rw [show (dat m c).Φ t.succ = iprop(inv m (t.val + 1) c ∗ tabHeld (F := F) c) from rfl]
  unfold left
  iintro ⟨⟨Hinv, HO, HA, HB⟩, Htab⟩
  isplitl [Hinv Htab]
  · isplitl [Hinv]; · iexact Hinv
    iexact Htab
  isplitl [HO]; · iapply (ow_owesAt m c t.succ); iexact HO
  isplitl [HA]; · iexact HA
  iexact HB

theorem body_ok (c : Dev nD) : Pipeline.BodyObligation (dat m c) defs₀ 𝒱₀ () Set.univ := by
  intro t
  have hN : t.val < 64 := lt_of_lt_of_eq t.isLt N_0
  refine (Entails.of_eq (congrArg (fun x => iprop((dat m c).Φ t.castSucc ∗ (dat m c).owesAt () t.castSucc ∗ x)) (bigSep_W0 _))).trans ?_
  refine (pre_ok m c t).trans ?_
  refine (sep_mono_left (step m c (grid0.coords t) _ (hstage0_0 _) _ (hstage0_1 _) t.val hN (conds t))).trans ?_
  refine (wp_frame_r _ _ _).trans ?_
  refine wp_mono _ _ _ fun _ => ?_
  refine (post_ok m c t).trans ?_
  refine sep_mono_right (sep_mono_right ?_)
  exact Entails.of_eq (bigSep_W0 (fun w : Fin 2 =>
    owns (c : Thread nD τ) (((cfgD (F := F) c).win w).stage ((cfgD (F := F) c).slots t w)) fullShare ((dat m c).after w t))).symm

end Cert.KernelIdeal.Swap
-- ==== Proof.Join.lean ====
/-
# Buffers cut into blocks and put together again

A scratch buffer is its four slots and the output is its eight blocks: at entry both are cut, at the end the slots join to
the buffer at some contents and the blocks to the output at the reduced contents.
-/
module

public import proofs.«01_k».proof.Proof.Data

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem own_any (c : Dev nD) {sp : Space} {s : Shape} {e : EltTy} (M : Memref sig .tc sp s e) (X : s.Idx → Elt F e) :
    (owns (c : Thread nD τ) M fullShare X : sProp 𝕄) ⊢ anyAt (F := F) c M := by
  unfold anyAt
  iintro H
  iexists X
  iexact H

/-! ## Slots of a scratch buffer -/

theorem slotR_disj (p q : Fin 4) (h : p ≠ q) : Disjoint (slotR p).set (slotR q).set := by
  rw [Finset.disjoint_left]
  intro i hi hj
  rw [Rect.mem_set_unit] at hi hj
  have h0 := hi 0
  have h1 := hj 0
  have e0 : (![p.val, 0, 0] : Fin 3 → Nat) 0 = p.val := rfl
  have e1 : (![q.val, 0, 0] : Fin 3 → Nat) 0 = q.val := rfl
  have e2 : S1x2048x1024.size 0 = 1 := rfl
  rw [e0, e2] at h0
  rw [e1, e2] at h1
  exact h (Fin.ext (by omega))

theorem slotR_cov : (Finset.univ : Finset (Fin 4)).biUnion (fun p => (slotR p).set) = Finset.univ := by
  refine Finset.eq_univ_iff_forall.mpr fun (i : S4x2048x1024.Idx) => ?_
  have h0 : (i 0).val < 4 := (i 0).isLt
  have h1 : (i 1).val < 2048 := (i 1).isLt
  have h2 : (i 2).val < 1024 := (i 2).isLt
  refine Finset.mem_biUnion.mpr ⟨⟨(i 0).val, h0⟩, Finset.mem_univ _, ?_⟩
  rw [Rect.mem_set_unit]
  intro (a : Fin 3)
  fin_cases a
  · show (i 0).val ≤ (i 0).val ∧ (i 0).val < (i 0).val + 1; omega
  · show 0 ≤ (i 1).val ∧ (i 1).val < 0 + 2048; omega
  · show 0 ≤ (i 2).val ∧ (i 2).val < 0 + 1024; omega

/-- A slot, and its rectangle of the buffer. -/
theorem slot_any (c : Dev nD) (M : Memref sig .tc .vmem S4x2048x1024 .bf16) (p : Fin 4) (X : S1x2048x1024.Idx → Elt F .bf16) :
    (owns (c : Thread nD τ) (M.slice (slotR p) (fun _ => rfl)) fullShare X : sProp 𝕄) ⊢ anyAt (F := F) c (slot M p) := by
  unfold anyAt owns
  iintro ⟨%f, %hf, H⟩
  iexists (slot M p).view.read (Elt F) f
  iexists f
  isplitr; · ipureintro; rfl
  rw [slot_set]
  iexact H
theorem any_slot (c : Dev nD) (M : Memref sig .tc .vmem S4x2048x1024 .bf16) (p : Fin 4) :
    anyAt (F := F) c (slot M p) ⊢ (iprop(∃ X, owns (c : Thread nD τ) (M.slice (slotR p) (fun _ => rfl)) fullShare X) : sProp 𝕄) := by
  unfold anyAt owns
  iintro ⟨%X, %f, %hf, H⟩
  iexists (M.access (slotR p)).read (Elt F) f
  iexists f
  isplitr; · ipureintro; rfl
  rw [slot_set]
  iexact H

/-- A whole buffer of four slots is its slots, each at some contents, -/
theorem slots_of (c : Dev nD) (M : Memref sig .tc .vmem S4x2048x1024 .bf16) (X : S4x2048x1024.Idx → Elt F .bf16) :
    (owns (c : Thread nD τ) M fullShare X : sProp 𝕄) ⊢ bigSep Finset.univ fun p : Fin 4 => anyAt (F := F) c (slot M p) :=
  (owns_rects (c : Thread nD τ) M fullShare (fun p : Fin 4 => slotR p) (fun _ _ => rfl) slotR_disj slotR_cov X).trans
    (bigSep_mono fun p _ => slot_any c M p _)

/-- and the slots join back. -/
theorem of_slots (c : Dev nD) (M : Memref sig .tc .vmem S4x2048x1024 .bf16) :
    (bigSep Finset.univ fun p : Fin 4 => anyAt (F := F) c (slot M p)) ⊢ (iprop(∃ X, owns (c : Thread nD τ) M fullShare X) : sProp 𝕄) := by
  refine (bigSep_mono fun p _ => any_slot c M p).trans ?_
  have this : ∀ _ : Fin 4, Nonempty (S1x2048x1024.Idx → Elt F .bf16) := fun _ => ⟨fun _ => Classical.choice (Elt.nonempty F .bf16)⟩
  refine (@bigSep_exists_pi _ _ _ _ (fun _ : Fin 4 => S1x2048x1024.Idx → Elt F .bf16) this Finset.univ fun (p : Fin 4) (X : S1x2048x1024.Idx → Elt F .bf16) =>
    (owns (c : Thread nD τ) (M.slice (slotR p) (fun _ => rfl)) fullShare X : sProp 𝕄)).trans ?_
  iintro ⟨%Xs, H⟩
  iexists fun i : S4x2048x1024.Idx => Xs (i 0) (ix3 (0 : Fin 1) (i 1) (i 2))
  iapply (owns_of_rects (c : Thread nD τ) M fullShare (fun p : Fin 4 => slotR p) (fun _ _ => rfl) slotR_disj slotR_cov _)
  iapply (Entails.of_eq (bigSep_congr fun p _ => ?_)) $$ H
  congr 1
  funext (j : S1x2048x1024.Idx)
  have h0 : (j 0).val < 1 := (j 0).isLt
  have e0 : ((slotR p).emb j) 0 = p := Fin.ext (show p.val + 1 * (j 0).val = p.val by omega)
  have e1 : ix3 (0 : Fin 1) (((slotR p).emb j) 1) (((slotR p).emb j) 2) = j := by
    funext (a : Fin 3)
    apply Fin.ext
    fin_cases a
    · show 0 = (j 0).val; omega
    · show 0 + 1 * (j 1).val = (j 1).val; omega
    · show 0 + 1 * (j 2).val = (j 2).val; omega
  show Xs p j = Xs (((slotR p).emb j) 0) _
  rw [e0]
  exact congrArg (Xs p) e1.symm

/-! ## Blocks of the output -/

abbrev oT (t : Fin 2 × Fin 4) : Rect S4096x4096 := oR t.1 t.2

theorem oT_disj (s t : Fin 2 × Fin 4) (h : s ≠ t) : Disjoint (oT s).set (oT t).set := by
  rw [Finset.disjoint_left]
  intro i hi hj
  rw [Rect.mem_set_unit] at hi hj
  have a0 : 2048 * s.1.val ≤ (i 0).val ∧ (i 0).val < 2048 * s.1.val + 2048 := hi 0
  have a1 : 1024 * s.2.val ≤ (i 1).val ∧ (i 1).val < 1024 * s.2.val + 1024 := hi 1
  have b0 : 2048 * t.1.val ≤ (i 0).val ∧ (i 0).val < 2048 * t.1.val + 2048 := hj 0
  have b1 : 1024 * t.2.val ≤ (i 1).val ∧ (i 1).val < 1024 * t.2.val + 1024 := hj 1
  exact h (Prod.ext (Fin.ext (by omega)) (Fin.ext (by omega)))

theorem oT_cov : (Finset.univ : Finset (Fin 2 × Fin 4)).biUnion (fun t => (oT t).set) = Finset.univ := by
  refine Finset.eq_univ_iff_forall.mpr fun (i : S4096x4096.Idx) => ?_
  have h0 : (i 0).val < 4096 := (i 0).isLt
  have h1 : (i 1).val < 4096 := (i 1).isLt
  refine Finset.mem_biUnion.mpr ⟨(⟨(i 0).val / 2048, by omega⟩, ⟨(i 1).val / 1024, by omega⟩), Finset.mem_univ _, ?_⟩
  rw [Rect.mem_set_unit]
  intro (a : Fin 2)
  fin_cases a
  · show 2048 * ((i 0).val / 2048) ≤ (i 0).val ∧ (i 0).val < 2048 * ((i 0).val / 2048) + 2048; omega
  · show 1024 * ((i 1).val / 1024) ≤ (i 1).val ∧ (i 1).val < 1024 * ((i 1).val / 1024) + 1024; omega

/-- Both row halves: the device's own and the other's. -/
theorem both (c : Dev nD) (Φ : Fin 2 → sProp 𝕄) : bigSep Finset.univ Φ = iprop(Φ (yy c) ∗ Φ (yy (py c))) := by
  have h : yy c = 0 ∧ yy (py c) = 1 ∨ yy c = 1 ∧ yy (py c) = 0 := by revert c; decide
  rcases h with ⟨h0, h1⟩ | ⟨h0, h1⟩
  · rw [h0, h1]; exact bigSep_fin_two Φ
  · rw [h0, h1]
    refine (bigSep_fin_two Φ).trans ?_
    exact BI.equiv_iff.mp ⟨BI.sep_comm, BI.sep_comm⟩

/-- The output at any contents is its eight blocks, each at some contents. -/
theorem out_split (c : Dev nD) (X : S4096x4096.Idx → Elt F .bf16) :
    (owns (c : Thread nD τ) oM fullShare X : sProp 𝕄)
      ⊢ iprop((bigSep Finset.univ fun p : Fin 4 => anyAt (F := F) c (ob c p)) ∗ bigSep Finset.univ fun p : Fin 4 => anyAt (F := F) c (ob (py c) p)) := by
  refine (owns_rects (c : Thread nD τ) oM fullShare oT (fun _ _ => rfl) oT_disj oT_cov X).trans ?_
  rw [bigSep_univ_prod]
  refine (Entails.of_eq (both c _)).trans ?_
  refine BIClass.sep_mono (bigSep_mono fun p _ => ?_) (bigSep_mono fun p _ => ?_)
  · exact own_any c (ob c p) _
  · exact own_any c (ob (py c) p) _

variable (P : Dev nD → Fin 4 → Blk F)

/-- The reduced block of row half `y` and column block `p`, as device `c` comes to hold it. -/
def redAt (c : Dev nD) (y : ℕ) (p : Fin 4) : Blk F := if y = c.val % 2 then R P c p else R P (py c) p

/-- What a device's output holds in the end. -/
def outOf (c : Dev nD) : S4096x4096.Idx → Elt F .bf16 := fun i =>
  redAt P c ((i 0).val / 2048) ⟨(i 1).val / 1024 % 4, Nat.mod_lt _ (by decide)⟩
    (ix2 ⟨(i 0).val % 2048, Nat.mod_lt _ (by decide)⟩ ⟨(i 1).val % 1024, Nat.mod_lt _ (by decide)⟩)

theorem outOf_at (c : Dev nD) (y : Fin 2) (p : Fin 4) (j : S2048x1024.Idx) :
    outOf P c ((oR y p).emb j) = redAt P c y.val p j := by
  have h0 : (j 0).val < 2048 := (j 0).isLt
  have h1 : (j 1).val < 1024 := (j 1).isLt
  have e0 : (((oR y p).emb j) 0).val = 2048 * y.val + 1 * (j 0).val := rfl
  have e1 : (((oR y p).emb j) 1).val = 1024 * p.val + 1 * (j 1).val := rfl
  have hp := p.isLt
  unfold outOf
  have a1 : (⟨(((oR y p).emb j) 1).val / 1024 % 4, Nat.mod_lt _ (by decide)⟩ : Fin 4) = p := Fin.ext (by
    show (((oR y p).emb j) 1).val / 1024 % 4 = p.val
    rw [e1]; omega)
  have a0 : (((oR y p).emb j) 0).val / 2048 = y.val := by rw [e0]; omega
  have a2 : (ix2 ⟨(((oR y p).emb j) 0).val % 2048, Nat.mod_lt _ (by decide)⟩ ⟨(((oR y p).emb j) 1).val % 1024, Nat.mod_lt _ (by decide)⟩ : S2048x1024.Idx) = j := by
    funext (a : Fin 2)
    apply Fin.ext
    fin_cases a
    · show (((oR y p).emb j) 0).val % 2048 = (j 0).val
      rw [e0]; omega
    · show (((oR y p).emb j) 1).val % 1024 = (j 1).val
      rw [e1]; omega
  rw [a0, a1, a2]

theorem redAt_own (c : Dev nD) (p : Fin 4) : redAt P c (yy c).val p = R P c p := if_pos rfl
theorem redAt_other (c : Dev nD) (p : Fin 4) : redAt P c (yy (py c)).val p = R P (py c) p :=
  if_neg (show ¬ (py c).val % 2 = c.val % 2 by rw [py_row]; omega)

/-- The eight blocks, reduced, are the output. -/
theorem out_join (c : Dev nD) :
    iprop((bigSep Finset.univ fun p : Fin 4 => owns (c : Thread nD τ) (ob c p) fullShare (R P c p))
        ∗ bigSep Finset.univ fun p : Fin 4 => owns (c : Thread nD τ) (ob (py c) p) fullShare (R P (py c) p))
      ⊢ (owns (c : Thread nD τ) oM fullShare (outOf P c) : sProp 𝕄) := by
  refine BIBase.Entails.trans ?_ (owns_of_rects (c : Thread nD τ) oM fullShare oT (fun _ _ => rfl) oT_disj oT_cov (outOf P c))
  rw [bigSep_univ_prod]
  refine BIBase.Entails.trans ?_ (Entails.of_eq (both c _).symm)
  refine BIClass.sep_mono (bigSep_mono fun p _ => ?_) (bigSep_mono fun p _ => ?_)
  · refine Entails.of_eq (congrArg (fun X => owns (c : Thread nD τ) (ob c p) fullShare X) ?_)
    funext j; rw [← redAt_own P c p]; exact (outOf_at P c (yy c) p j).symm
  · refine Entails.of_eq (congrArg (fun X => owns (c : Thread nD τ) (ob (py c) p) fullShare X) ?_)
    funext j; rw [← redAt_other P c p]; exact (outOf_at P c (yy (py c)) p j).symm

end Cert.KernelIdeal.Swap
-- ==== Proof.Entry.lean ====
/-
# Into the pipelined region and out of it

A device enters with its buffers, its dues and the protocol's tokens; it opens its transfer cells, and its output and
staging buffers are cut into the slots' blocks. It leaves with the output whole again.
-/
module

public import proofs.«01_k».proof.Proof.BodyOk
public import proofs.«01_k».proof.Proof.Join

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The twenty cells of a device -/

theorem fin20 (Φ : SemLoc sig → sProp (MT nD τ sig Unit (Elt F) ℕ UU ℕ)) :
    (bigSep Finset.univ fun k : Fin 20 => Φ (osem k))
      = iprop((bigSep Finset.univ fun p : Fin 4 => Φ (.dma (xsS p))) ∗ (bigSep Finset.univ fun p : Fin 4 => Φ (.dma (xrS p)))
        ∗ (bigSep Finset.univ fun p : Fin 4 => Φ (.dma (ysS p))) ∗ (bigSep Finset.univ fun p : Fin 4 => Φ (.dma (yrS p)))
        ∗ bigSep Finset.univ fun p : Fin 4 => Φ (.dma (owS p))) := by
  have e : ∀ (i : Fin 5) (p : Fin 4), (finProdFinEquiv (i, p) : Fin 20) = ix i p := by decide
  rw [bigSep_univ_equiv (finProdFinEquiv : Fin 5 × Fin 4 ≃ Fin 20) fun k => Φ (osem k), bigSep_univ_prod,
    bigSep_univ_eq_bigSepL [(0 : Fin 5), 1, 2, 3, 4] (by decide) (by decide)]
  simp only [e, osem_xs, osem_xr, osem_ys, osem_yr, osem_ow, bigSepL]
  rfl

/-- What a device is dealt of slot `p`, besides its cells. -/
def spare (c : Dev nD) (p : Fin 4) : sProp 𝕄 :=
  iprop(tok (F := F) (xsC c p) ∗ tok (F := F) (xrC (px c) p) ∗ tok (F := F) (ysC c p) ∗ tok (F := F) (yrC (py c) p) ∗ tok (F := F) (owC c p)
    ∗ crd (F := F) (xrC c p) ∗ crd (F := F) (yrC c p))

/-- The right to open each of its transfer cells. -/
def opens (c : Dev nD) : sProp 𝕄 := bigSep Finset.univ fun k : Fin 20 => openTok ER ((c : Thread nD τ), osem k)

/-- What a device has at the start of the launch, besides its buffers and dues. -/
def start (P : Dev nD → Fin 4 → Blk F) (c : Dev nD) : sProp 𝕄 :=
  iprop((∃ K, Inv P K) ∗ opens (F := F) c ∗ barStart (F := F) c ∗ bigSep Finset.univ (spare (F := F) c))

/-- What the cells give, opened. -/
def opened (c : Dev nD) (p : Fin 4) : sProp 𝕄 :=
  iprop((at0 (F := F) (xsC c p) ∗ rch (F := F) (xsC c p)) ∗ (at0 (F := F) (xrC c p) ∗ rch (F := F) (xrC c p))
    ∗ (at0 (F := F) (ysC c p) ∗ rch (F := F) (ysC c p)) ∗ (at0 (F := F) (yrC c p) ∗ rch (F := F) (yrC c p))
    ∗ (at0 (F := F) (owC c p) ∗ rch (F := F) (owC c p)))

theorem opened_eq (c : Dev nD) :
    (bigSep Finset.univ fun k : Fin 20 => iprop(at0 (F := F) ((c : Thread nD τ), osem k) ∗ rch (F := F) ((c : Thread nD τ), osem k)))
      = bigSep Finset.univ (opened (F := F) c) := by
  rw [fin20 fun s => iprop(at0 (F := F) ((c : Thread nD τ), s) ∗ rch (F := F) ((c : Thread nD τ), s))]
  unfold opened
  simp only [bigSep_sep']

theorem open_one (P : Dev nD → Fin 4 → Blk F) (K : GSem nD τ sig → ℕ) (c : Dev nD) (k : Fin 20) :
    iprop(Inv P K ∗ (openTok ER ((c : Thread nD τ), osem k) ∗ semVal ((c : Thread nD τ), osem k) 0))
      ⊢ (|={Set.univ}=> iprop(at0 (F := F) ((c : Thread nD τ), osem k) ∗ rch (F := F) ((c : Thread nD τ), osem k)) : sProp 𝕄) := by
  iintro ⟨#HI, Ho, Hv⟩
  iapply (Rounds.cell_open ER (Rd P) (g := ((c : Thread nD τ), osem k)) (Set.mem_univ (K ((c : Thread nD τ), osem k))))
  isplitr; · iapply (Inv_at P K (dma_mem c k)); iexact HI
  isplitl [Ho]; · iexact Ho
  iexact Hv

/-- The cells open at the region's entry, where the device is handed their counters at zero. -/
theorem open_cells (P : Dev nD → Fin 4 → Blk F) (K : GSem nD τ sig → ℕ) (c : Dev nD) :
    iprop(Inv P K ∗ opens (F := F) c ∗ Pipeline.ownSems0 osem c)
      ⊢ (|={Set.univ}=> bigSep Finset.univ (opened (F := F) c) : sProp 𝕄) := by
  rw [← opened_eq]
  refine BIBase.Entails.trans ?_ (bigSep_fupd (E := Set.univ) Finset.univ fun k : Fin 20 => iprop(at0 (F := F) ((c : Thread nD τ), osem k) ∗ rch (F := F) ((c : Thread nD τ), osem k)))
  unfold opens Pipeline.ownSems0
  rw [← bigSep_sep']
  exact bigSep_with_persistent (R := Inv P K) fun k _ => open_one P K c k

/-! ## Into the invariant -/

/-- What a slot comes with, less its two staging buffers. -/
def mid (c : Dev nD) (p : Fin 4) : sProp 𝕄 :=
  iprop(anyAt (F := F) c (ob c p) ∗ anyAt (F := F) c (ob (py c) p) ∗ opened (F := F) c p ∗ spare (F := F) c p)

theorem mid_fresh (c : Dev nD) (p : Fin 4) :
    iprop(anyAt (F := F) c (slot pM p) ∗ anyAt (F := F) c (slot xM p) ∗ mid (F := F) c p) ⊢ (stFresh (F := F) c p : sProp 𝕄) := by
  unfold mid opened spare stFresh keep lendX lendY
  iintro ⟨Hp, Hx, Ho, Hoy, ⟨⟨Has, Hrs⟩, ⟨Har, Hrr⟩, ⟨Hays, Hrys⟩, ⟨Hayr, Hryr⟩, Haow, Hrow⟩, Hts, Htr, Htys, Htyr, Htow, Hcr, Hcyr⟩
  isplitl [Hp Ho Has Har Hays Hayr Haow Hrs Hrys Hrow Hts Htr Htys Htyr Htow Hcr Hcyr]
  · isplitl [Hp]; · iexact Hp
    isplitl [Ho]; · iexact Ho
    isplitl [Has]; · iexact Has
    isplitl [Har]; · iexact Har
    isplitl [Hays]; · iexact Hays
    isplitl [Hayr]; · iexact Hayr
    isplitl [Haow]; · iexact Haow
    isplitl [Hrs]; · iexact Hrs
    isplitl [Hrys]; · iexact Hrys
    isplitl [Hrow]; · iexact Hrow
    isplitl [Hts]; · iexact Hts
    isplitl [Htr]; · iexact Htr
    isplitl [Htys]; · iexact Htys
    isplitl [Htyr]; · iexact Htyr
    isplitl [Htow]; · iexact Htow
    isplitl [Hcr]; · iexact Hcr
    iexact Hcyr
  isplitl [Hx Hrr]
  · isplitl [Hx]; · iexact Hx
    iexact Hrr
  isplitl [Hoy]; · iexact Hoy
  iexact Hryr

theorem fresh_all (c : Dev nD) :
    iprop((bigSep Finset.univ fun p : Fin 4 => anyAt (F := F) c (slot pM p)) ∗ (bigSep Finset.univ fun p : Fin 4 => anyAt (F := F) c (slot xM p))
        ∗ bigSep Finset.univ (mid (F := F) c))
      ⊢ (bigSep Finset.univ (stFresh (F := F) c) : sProp 𝕄) := by
  rw [← bigSep_sep', ← bigSep_sep']
  exact bigSep_mono fun p _ => mid_fresh c p

theorem mid_all (c : Dev nD) :
    iprop((bigSep Finset.univ fun p : Fin 4 => anyAt (F := F) c (ob c p)) ∗ (bigSep Finset.univ fun p : Fin 4 => anyAt (F := F) c (ob (py c) p))
        ∗ bigSep Finset.univ (opened (F := F) c) ∗ bigSep Finset.univ (spare (F := F) c))
      = (bigSep Finset.univ (mid (F := F) c) : sProp 𝕄) := by
  unfold mid
  simp only [bigSep_sep']

variable (m : (ℓ : Loc nD τ sig) → Buf (Elt F) ℓ)

/-- What enters the invariant. -/
def inX (c : Dev nD) : sProp 𝕄 :=
  iprop((∃ K, Inv (P m) K) ∗ levAts L lv ∗ barStart (F := F) c ∗ bigSep Finset.univ (mid (F := F) c))

theorem st_zero (c : Dev nD) : (bigSep Finset.univ (stAt m 0 c) : sProp 𝕄) = bigSep Finset.univ (stFresh (F := F) c) := by
  unfold stAt; simp only [if_true]

theorem st_last (c : Dev nD) : (bigSep Finset.univ (stAt m 64 c) : sProp 𝕄) = bigSep Finset.univ (stDone (P m) c) := by
  have h : ¬ (64 : ℕ) = 0 := by decide
  unfold stAt; simp only [if_neg h, if_true]

theorem r_in (c : Dev nD) :
    iprop(inX m c ∗ tabHeld (F := F) c ∗ Pipeline.scopedRest spec0 c) ⊢ ((dat m c).Φ 0 : sProp 𝕄) := by
  show _ ⊢ iprop(inv m 0 c ∗ tabHeld (F := F) c)
  rw [scopedRest0_eq]
  unfold inX inv accAt barAt
  rw [st_zero, if_pos rfl]
  iintro ⟨⟨HI, Hlev, Hbar, Hmid⟩, Ht, ⟨%f0, Ha⟩, ⟨%f1, Hp⟩, ⟨%f2, Hx⟩⟩
  isplitr [Ht]; swap; · iexact Ht
  isplitl [HI]; · iexact HI
  isplitl [Hlev]; · iexact Hlev
  isplitr [Ha Hbar]
  · ihave Hp := (Entails.of_eq (owns_whole (c : Thread nD τ) cc0_scratch1 fullShare f1).symm) $$ Hp
    ihave Hx := (Entails.of_eq (owns_whole (c : Thread nD τ) cc0_scratch2 fullShare f2).symm) $$ Hx
    ihave Hp := (slots_of c pM f1) $$ Hp
    ihave Hx := (slots_of c xM f2) $$ Hx
    iapply (fresh_all c)
    isplitl [Hp]; · iexact Hp
    isplitl [Hx]; · iexact Hx
    iexact Hmid
  isplitl [Ha]
  · iexists f0
    isplitr; · ipureintro; exact fun h => absurd rfl h
    ihave Ha := (Entails.of_eq (owns_whole (c : Thread nD τ) cc0_scratch0 fullShare f0).symm) $$ Ha
    iexact Ha
  iexact Hbar

/-! ## Out of the invariant -/

theorem done_all (P : Dev nD → Fin 4 → Blk F) (c : Dev nD) :
    (bigSep Finset.univ (stDone P c) : sProp 𝕄)
      = iprop((bigSep Finset.univ fun p : Fin 4 => anyAt (F := F) c (slot xM p)) ∗ (bigSep Finset.univ fun p : Fin 4 => anyAt (F := F) c (slot pM p))
        ∗ (bigSep Finset.univ fun p : Fin 4 => zero (F := F) (xsC c p)) ∗ (bigSep Finset.univ fun p : Fin 4 => zero (F := F) (xrC c p))
        ∗ (bigSep Finset.univ fun p : Fin 4 => zero (F := F) (ysC c p)) ∗ (bigSep Finset.univ fun p : Fin 4 => zero (F := F) (yrC c p))
        ∗ (bigSep Finset.univ fun p : Fin 4 => zero (F := F) (owC c p))
        ∗ (bigSep Finset.univ fun p : Fin 4 => owns (c : Thread nD τ) (ob c p) fullShare (R P c p))
        ∗ bigSep Finset.univ fun p : Fin 4 => owns (c : Thread nD τ) (ob (py c) p) fullShare (R P (py c) p)) := by
  unfold stDone
  simp only [bigSep_sep']

theorem zeros_eq (c : Dev nD) :
    (Pipeline.ownSems0 osem c : sProp 𝕄)
      = iprop((bigSep Finset.univ fun p : Fin 4 => zero (F := F) (xsC c p)) ∗ (bigSep Finset.univ fun p : Fin 4 => zero (F := F) (xrC c p))
        ∗ (bigSep Finset.univ fun p : Fin 4 => zero (F := F) (ysC c p)) ∗ (bigSep Finset.univ fun p : Fin 4 => zero (F := F) (yrC c p))
        ∗ (bigSep Finset.univ fun p : Fin 4 => zero (F := F) (owC c p))) := by
  unfold Pipeline.ownSems0
  exact fin20 fun s => zero (F := F) ((c : Thread nD τ), s)

/-- What leaves the invariant. -/
def outY (c : Dev nD) : sProp 𝕄 :=
  iprop((((c : Thread nD τ).loc main_v6) ↦{fullShare} outOf (P m) c) ∗ zero (F := F) (barC c))

theorem r_out (c : Dev nD) :
    ((dat m c).Φ (Fin.last grid0.N) : sProp 𝕄) ⊢ iprop(outY m c ∗ Pipeline.ownSems0 osem c ∗ Pipeline.scopedRest spec0 c) := by
  have hN : (Fin.last grid0.N).val = 64 := N_0
  show iprop(inv m (Fin.last grid0.N).val c ∗ tabHeld (F := F) c) ⊢ _
  rw [hN, scopedRest0_eq, zeros_eq]
  unfold outY inv accAt barAt
  rw [st_last, if_neg (show ¬ (64 : ℕ) = 0 by decide), done_all]
  iintro ⟨⟨-, -, ⟨Hx, Hp, Hxs, Hxr, Hys, Hyr, How, Ho1, Ho2⟩, ⟨%f, -, Ha⟩, Hbar⟩, -⟩
  isplitl [Ho1 Ho2 Hbar]
  · isplitr [Hbar]; swap; · iexact Hbar
    ihave Ho := (out_join (P m) c) $$ [Ho1 Ho2]
    · isplitl [Ho1]; · iexact Ho1
      iexact Ho2
    iapply (Entails.of_eq (owns_whole (c : Thread nD τ) main_v6 fullShare (outOf (P m) c))) $$ Ho
  isplitl [Hxs Hxr Hys Hyr How]
  · isplitl [Hxs]; · iexact Hxs
    isplitl [Hxr]; · iexact Hxr
    isplitl [Hys]; · iexact Hys
    isplitl [Hyr]; · iexact Hyr
    iexact How
  isplitl [Ha]
  · iexists f
    iapply (Entails.of_eq (owns_whole (c : Thread nD τ) cc0_scratch0 fullShare f)) $$ Ha
  isplitl [Hp]
  · ihave Hp := (of_slots c pM) $$ Hp
    icases Hp with ⟨%X, Hp⟩
    iexists X
    iapply (Entails.of_eq (owns_whole (c : Thread nD τ) cc0_scratch1 fullShare X)) $$ Hp
  ihave Hx := (of_slots c xM) $$ Hx
  icases Hx with ⟨%X, Hx⟩
  iexists X
  iapply (Entails.of_eq (owns_whole (c : Thread nD τ) cc0_scratch2 fullShare X)) $$ Hx

end Cert.KernelIdeal.Swap
-- ==== Proof.Region.lean ====
/-
# The region's record

What the region takes of a device's buffers and gives back, and that its waits are licensed.
-/
module

public import proofs.«01_k».proof.Proof.Entry

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- The host's operations leave the table at the device's column. -/
theorem V1_v5 (c : Dev nD) : V1 m c main_v5 = tab (F := F) c 0 := by
  have h : ∀ c : Dev nD, IntOp.remui .host (IntOp.divui .host (Dev.word c) 1#32) 2#32 = BitVec.ofNat 32 (c.val % 2) := by decide
  unfold V1 hostOps0
  after_results
  funext i
  exact h c

/-- The buffers a device holds at the region's entry, sorted. -/
theorem sorted (c : Dev nD) :
    (StableHlo.held (c : Thread nD τ) (Pipeline.ucRefs τ sig) (V1 m c) : sProp 𝕄)
      ⊢ iprop((dat m c).arrays ((dat m c).arrAt · 0) ∗ tabHeld (F := F) c ∗ (((c : Thread nD τ).loc main_v6) ↦{fullShare} V1 m c main_v6)) := by
  have h0 : V1 m c main_arg0 = m ((c : Thread nD τ).loc main_arg0) := V1_of m c main_arg0 (by decide)
  have h1 : V1 m c main_arg1 = m ((c : Thread nD τ).loc main_arg1) := V1_of m c main_arg1 (by decide)
  have e1 := Pipeline.PerCore.unscopedBufs_split (Ix := Unit) (Name := ℕ) (U := UU) (Lvl := ℕ) (Pipeline.pinD (pcfgs (F := F)) ad) 0 c winFacts0.arr_unscoped winFacts0.arr_inj (fun b => V1 m c b)
  have e2 := Pipeline.unscopedRest_split (Val := Elt F) (Ix := Unit) (Name := ℕ) (U := UU) (Lvl := ℕ) preFacts0 c (fun b => V1 m c b)
  have e3 := Pipeline.PerCore.arrays_eq (Pipeline.pinD (pcfgs (F := F)) ad) (pdats m) 0 c arr_whole0 (fun w => (pdats m 0 c).share_full (fun _ => rfl) w) (fun w => (dat m c).arrAt w 0)
  have e4 : (fun k => V1 m c (pre0.ref k)) = tab (F := F) c := by
    funext k; fin_cases k; exact V1_v5 m c
  have a0 : (dat m c).arrAt 0 0 = V1 m c main_arg0 := h0.symm
  have a1 : (dat m c).arrAt 1 0 = V1 m c main_arg1 := h1.symm
  rw [bigSep_W0] at e1 e3
  rw [a0, a1] at e3
  rw [← Pipeline.unscopedBufs_held c (V1 m c), e1]
  rw [show Pipeline.unscopedRest (Pipeline.pinD (pcfgs (F := F)) ad c 0).spec c (fun b => V1 m c b) = _ from e2, unscopedRestP0_eq, e4]
  rw [show (dat m c).arrays ((dat m c).arrAt · 0) = _ from e3]
  iintro ⟨⟨H0, H1⟩, Ht, -, -, -, -, -, -, Ho⟩
  isplitl [H0 H1]
  · isplitl [H0]
    · iexact H0
    · iexact H1
  isplitl [Ht]; · iexact Ht
  iexact Ho

/-- The thread's state before the region, and after it. -/
def enter (c : Dev nD) : sProp 𝕄 :=
  iprop(StableHlo.held (c : Thread nD τ) (Pipeline.ucRefs τ sig) (V1 m c) ∗ start (P m) c ∗ ow (F := F) c (owe0 c))
def result (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v6) ↦{fullShare} outOf (P m) c) ∗ zero (F := F) (barC c))

theorem r_entry (c : Dev nD) :
    iprop(enter m c ∗ Pipeline.ownSems0 osem c ∗ levAts L lv)
      ⊢ (|={Set.univ}=> iprop((dat m c).arrays ((dat m c).arrAt · 0) ∗ tabHeld (F := F) c ∗ (dat m c).owesAt () 0 ∗ inX m c ∗ emp) : sProp 𝕄) := by
  unfold enter start inX
  iintro ⟨⟨Hh, ⟨⟨%K, #HI⟩, Hop, Hbar, Hsp⟩, HO⟩, Hz, Hlev⟩
  ihave Hh := (sorted m c) $$ Hh
  icases Hh with ⟨Harr, Ht, Hv6⟩
  imod (open_cells (P m) K c) $$ [Hop Hz] with Hcells
  · isplitr; · iexact HI
    isplitl [Hop]; · iexact Hop
    iexact Hz
  imodintro
  isplitl [Harr]; · iexact Harr
  isplitl [Ht]; · iexact Ht
  isplitl [HO]
  · iapply (ow_owesAt m c 0); iexact HO
  isplitl
  · isplitr; · iexists K; iexact HI
    isplitl [Hlev]; · iexact Hlev
    isplitl [Hbar]; · iexact Hbar
    ihave Hv6 := (Entails.of_eq (owns_whole (c : Thread nD τ) main_v6 fullShare (V1 m c main_v6)).symm) $$ Hv6
    ihave Hv6 := (out_split c (V1 m c main_v6)) $$ Hv6
    icases Hv6 with ⟨Hv1, Hv2⟩
    iapply (Entails.of_eq (mid_all c))
    isplitl [Hv1]; · iexact Hv1
    isplitl [Hv2]; · iexact Hv2
    isplitl [Hcells]; · iexact Hcells
    iexact Hsp
  iempintro

theorem r_exit (c : Dev nD) :
    iprop((dat m c).arrays ((dat m c).arrAt · grid0.N) ∗ (dat m c).owesAt () (Fin.last grid0.N) ∗ outY m c ∗ emp)
      ⊢ (|={Set.univ}=> iprop(result m c ∗ ow (F := F) c 0) : sProp 𝕄) := by
  have e3 := Pipeline.PerCore.arrays_eq (Pipeline.pinD (pcfgs (F := F)) ad) (pdats m) 0 c arr_whole0 (fun w => (pdats m 0 c).share_full (fun _ => rfl) w) (fun w => (dat m c).arrAt w grid0.N)
  rw [bigSep_W0] at e3
  have a0 : (dat m c).arrAt 0 grid0.N = m ((c : Thread nD τ).loc main_arg0) := (dat m c).arrAt_in 0 rfl _
  have a1 : (dat m c).arrAt 1 grid0.N = m ((c : Thread nD τ).loc main_arg1) := (dat m c).arrAt_in 1 rfl _
  rw [a0, a1] at e3
  rw [show (dat m c).arrays ((dat m c).arrAt · grid0.N) = _ from e3]
  unfold outY result
  iintro ⟨⟨H0, H1⟩, HO, ⟨Hv, Hz⟩, -⟩
  ihave HO := (owesAt_ow m c (Fin.last grid0.N)) $$ HO
  imodintro
  isplitr [HO]; swap
  · have hN : oweAt (Fin.last grid0.N).val c = 0 := by
      rw [show (Fin.last grid0.N).val = 64 from N_0]; rfl
    ihave HO := (Entails.of_eq (congrArg (fun O => ow (F := F) c O) hN)) $$ HO
    iexact HO
  isplitl [H0]; · iexact H0
  isplitl [H1]; · iexact H1
  isplitl [Hv]; · iexact Hv
  iexact Hz

theorem oweAt_pos (n : ℕ) (c : Dev nD) (g : GSem nD τ sig) (u : Unit) (h : 0 < oweAt n c g u) : g.1.2 = .tc ∧ 0 < lv g u := by
  unfold oweAt at h
  split at h
  · exact owe0_pos c g u h
  split at h
  · exact absurd h (Nat.lt_irrefl 0)
  · exact owe_pos_lv c _ _ g u h

theorem stage_lv (c : Dev nD) (w : Fin 2) (s : Fin (spec0 w).nbuf) : lv ((c : Thread nD τ), .dma ((spec0 w).sem s)) () = 0 := by
  have h : ∀ (w : Fin 2) (s : Fin (spec0 w).nbuf), levOf (role (.dma ((spec0 w).sem s))) = 0 := by decide
  exact h w s

theorem own_sems : Pipeline.OwnSemFacts spec0 osem := by decide

theorem r_waits (c : Dev nD) : (levAts L lv : sProp 𝕄) ⊢ Pipeline.PerCore.cellsWaits (Pipeline.pinD (pcfgs (F := F)) ad) (pdats m) () 0 c :=
  Pipeline.PerCore.cellsWaits_intro (Pipeline.pinD (pcfgs (F := F)) ad) (pdats m) () 0 c fun w s t =>
    MayOwe.of_cut (L := L) (lev := lv) 0 (fun q hq => by rw [Finset.mem_singleton.mp hq, L_tc]; exact Finset.mem_singleton_self _)
      (fun g u hg => by unfold L; rw [if_pos (oweAt_pos t.val c g u hg).1]; exact Finset.mem_singleton_self _)
      (fun q hq => by rw [Finset.mem_singleton.mp hq]; exact Nat.le_of_eq (stage_lv c w s))
      (fun g u hg => (oweAt_pos t.val c g u hg).2)

/-- The region's record. -/
def region : Pipeline.PerCore.RegionSeg (pcfgs (F := F)) ad (pdats m) () defs₀ 𝒱₀ L lv 0 where
  win := winFacts0.to₀
  block_pos := block_pos0
  stage_whole := stage_whole0
  K := Fin 20
  osem := osem
  ho := own_sems
  hbody c := (body_ok m c).loose
  hwaits := r_waits m
  pre := enter m
  post c := iprop(result m c ∗ ow (F := F) c 0)
  X := inX m
  Y := outY m
  Z _ := iprop(emp)
  hentry := r_entry m
  hin := r_in m
  hout := r_out m
  hexit := r_exit m

end Cert.KernelIdeal.Swap
-- ==== Proof.Launch.lean ====
/-
# The launch

The protocol's cells are funded — the barriers live, the transfer cells dormant until the region hands over their counters —
and its tokens, dues and credits dealt to the devices that use them.
-/
module

public import proofs.«01_k».proof.Proof.Region

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells and the tokens -/

theorem unscoped_bar : ∀ sm : SemLoc sig, sm.isScoped .tc = false → sm = .reg barS := by decide

theorem bar_sems (c : Dev nD) : (unscopedSems0 c : sProp 𝕄) = zero (F := F) (barC c) := by
  unfold unscopedSems0
  rw [show (Finset.univ.filter fun sm : SemLoc sig => ¬ sm.isScoped .tc) = {SemLoc.reg barS} from by decide, bigSep_singleton]

theorem cells_disj : Disjoint barCells dmaCells := by
  rw [Finset.disjoint_left]
  rintro g h₁ h₂
  obtain ⟨c, -, rfl⟩ := Finset.mem_map.mp h₁
  obtain ⟨⟨d, k⟩, -, h⟩ := Finset.mem_map.mp h₂
  have h' : osem k = .reg barS := congrArg (fun g : GSem nD τ sig => g.2) h
  exact absurd h' (by unfold osem; exact fun h => nomatch h)

/-- The token of each duty of a device's cells. -/
def dutyOf (x : Dev nD × (Bool ⊕ Fin 20)) : GSem nD τ sig × ℕ × Bool :=
  match x.2 with
  | .inl b => (barC x.1, 0, b)
  | .inr k => (((x.1 : Dev nD) : Thread nD τ), osem k, 0, false) |> fun y => ((y.1, y.2.1), y.2.2.1, y.2.2.2)

theorem dutyOf_inj : Function.Injective dutyOf := by
  rintro ⟨c, b | k⟩ ⟨d, b' | k'⟩ h
  · have h1 : c = d := congrArg (fun t : GSem nD τ sig × ℕ × Bool => t.1.1.1) h
    have h2 : b = b' := congrArg (fun t : GSem nD τ sig × ℕ × Bool => t.2.2) h
    rw [h1, h2]
  · have h2 : SemLoc.reg barS = osem k' := congrArg (fun t : GSem nD τ sig × ℕ × Bool => t.1.2) h
    exact absurd h2 (by unfold osem; exact fun h => nomatch h)
  · have h2 : osem k = SemLoc.reg barS := congrArg (fun t : GSem nD τ sig × ℕ × Bool => t.1.2) h
    exact absurd h2 (by unfold osem; exact fun h => nomatch h)
  · have h1 : c = d := congrArg (fun t : GSem nD τ sig × ℕ × Bool => t.1.1.1) h
    have h2 : osem k = osem k' := congrArg (fun t : GSem nD τ sig × ℕ × Bool => t.1.2) h
    rw [h1, osem_inj h2]

def tokens : Finset (GSem nD τ sig × ℕ × Bool) := Finset.univ.map ⟨dutyOf, dutyOf_inj⟩

theorem bool2 (Φ : Bool → sProp (MT nD τ sig Unit (Elt F) ℕ UU ℕ)) : bigSep Finset.univ Φ = iprop(Φ false ∗ Φ true) :=
  bigSep_univ_eq_bigSepL [false, true] (by decide) (by decide) Φ

/-- The tokens, device by device: each on its own cells, -/
theorem tokens_own :
    bigSep tokens (fun x => (dutyTok ER x.1 x.2.1 x.2.2 : sProp 𝕄))
      = iprop((bigSep Finset.univ fun c : Dev nD => dutyTok ER (barC c) 0 false) ∗ (bigSep Finset.univ fun c : Dev nD => dutyTok ER (barC c) 0 true)
        ∗ (bigSep Finset.univ fun c : Dev nD => bigSep Finset.univ fun p : Fin 4 => tok (F := F) (xsC c p))
        ∗ (bigSep Finset.univ fun c : Dev nD => bigSep Finset.univ fun p : Fin 4 => tok (F := F) (xrC c p))
        ∗ (bigSep Finset.univ fun c : Dev nD => bigSep Finset.univ fun p : Fin 4 => tok (F := F) (ysC c p))
        ∗ (bigSep Finset.univ fun c : Dev nD => bigSep Finset.univ fun p : Fin 4 => tok (F := F) (yrC c p))
        ∗ (bigSep Finset.univ fun c : Dev nD => bigSep Finset.univ fun p : Fin 4 => tok (F := F) (owC c p))) := by
  unfold tokens
  rw [bigSep_map, bigSep_univ_prod]
  have e : ∀ c : Dev nD, (bigSep Finset.univ fun b : Bool ⊕ Fin 20 => (dutyTok ER (dutyOf (c, b)).1 (dutyOf (c, b)).2.1 (dutyOf (c, b)).2.2 : sProp 𝕄))
      = iprop((dutyTok ER (barC c) 0 false ∗ dutyTok ER (barC c) 0 true)
        ∗ ((bigSep Finset.univ fun p : Fin 4 => tok (F := F) (xsC c p)) ∗ (bigSep Finset.univ fun p : Fin 4 => tok (F := F) (xrC c p))
        ∗ (bigSep Finset.univ fun p : Fin 4 => tok (F := F) (ysC c p)) ∗ (bigSep Finset.univ fun p : Fin 4 => tok (F := F) (yrC c p))
        ∗ (bigSep Finset.univ fun p : Fin 4 => tok (F := F) (owC c p)))) := by
    intro c
    rw [bigSep_univ_sum, bool2]
    exact congrArg (fun X => iprop((dutyTok ER (barC c) 0 false ∗ dutyTok ER (barC c) 0 true) ∗ X)) (fin20 fun s => tok (F := F) ((c : Thread nD τ), s))
  refine (bigSep_congr fun c _ => e c).trans ?_
  simp only [bigSep_sep']
  exact BI.equiv_iff.mp ⟨BI.sep_assoc, BI.sep_assoc'⟩

/-- What a device holds of the protocol that is not shared: -/
def linear (c : Dev nD) : sProp 𝕄 :=
  iprop(at0 (F := F) (barC c) ∗ opens (F := F) c ∗ dutyTok ER (barC (px c)) 0 false ∗ dutyTok ER (barC (py c)) 0 true
    ∗ (bigSep Finset.univ fun p : Fin 4 => tok (F := F) (xsC c p)) ∗ (bigSep Finset.univ fun p : Fin 4 => tok (F := F) (xrC (px c) p))
    ∗ (bigSep Finset.univ fun p : Fin 4 => tok (F := F) (ysC c p)) ∗ (bigSep Finset.univ fun p : Fin 4 => tok (F := F) (yrC (py c) p))
    ∗ (bigSep Finset.univ fun p : Fin 4 => tok (F := F) (owC c p)))

/-- the tokens of the neighbours' cells handed across. -/
theorem linear_all :
    iprop((bigSep Finset.univ fun c : Dev nD => at0 (F := F) (barC c)) ∗ (bigSep Finset.univ fun c : Dev nD => opens (F := F) c)
        ∗ bigSep tokens (fun x => (dutyTok ER x.1 x.2.1 x.2.2 : sProp 𝕄)))
      = bigSep Finset.univ (linear (F := F)) := by
  rw [tokens_own]
  unfold linear
  rw [bigSep_univ_equiv pxEquiv (fun c : Dev nD => (dutyTok ER (barC c) 0 false : sProp 𝕄)),
    bigSep_univ_equiv pyEquiv (fun c : Dev nD => (dutyTok ER (barC c) 0 true : sProp 𝕄)),
    bigSep_univ_equiv pxEquiv (fun c : Dev nD => bigSep Finset.univ fun p : Fin 4 => tok (F := F) (xrC c p)),
    bigSep_univ_equiv pyEquiv (fun c : Dev nD => bigSep Finset.univ fun p : Fin 4 => tok (F := F) (yrC c p))]
  simp only [bigSep_sep']
  rfl

/-! ## The credits -/

theorem creds (c : Dev nD) :
    (Pipeline.launchCred owe0 c : sProp 𝕄)
      ⊢ iprop(cred (tallyAt (barC c) () 2) ∗ (bigSep Finset.univ fun p : Fin 4 => crd (F := F) (xrC c p)) ∗ bigSep Finset.univ fun p : Fin 4 => crd (F := F) (yrC c p)) := by
  have e : owe0 = fun d => (((∑ q ∈ (Finset.univ : Finset (Fin 4)), tallyAt (xrC (px d) q) () N) + ∑ q ∈ (Finset.univ : Finset (Fin 4)), tallyAt (yrC (py d) q) () N)
      + tallyAt (barC (py d)) () 1) + tallyAt (barC (px d)) () 1 := by
    funext d
    unfold owe0 owe
    rw [show (Finset.univ : Finset (Fin 4)).filter (fun q => 0 ≤ q.val) = Finset.univ from by decide]
  have hX : ∀ q : Fin 4, (Pipeline.launchCred (fun d => tallyAt (xrC (px d) q) () N) c : sProp 𝕄) ⊢ crd (F := F) (xrC c q) :=
    fun q => Pipeline.launchCred_tallyAt (.dma (xrS q)) px px px_px px_px () N c
  have hY : ∀ q : Fin 4, (Pipeline.launchCred (fun d => tallyAt (yrC (py d) q) () N) c : sProp 𝕄) ⊢ crd (F := F) (yrC c q) :=
    fun q => Pipeline.launchCred_tallyAt (.dma (yrS q)) py py py_py py_py () N c
  rw [e, Pipeline.launchCred_add, Pipeline.launchCred_add, Pipeline.launchCred_add, Pipeline.launchCred_sum, Pipeline.launchCred_sum]
  have hXs : (bigSep Finset.univ fun q : Fin 4 => Pipeline.launchCred (fun d => tallyAt (xrC (px d) q) () N) c) ⊢ (bigSep Finset.univ fun p : Fin 4 => crd (F := F) (xrC c p) : sProp 𝕄) :=
    bigSep_mono fun q _ => hX q
  have hYs : (bigSep Finset.univ fun q : Fin 4 => Pipeline.launchCred (fun d => tallyAt (yrC (py d) q) () N) c) ⊢ (bigSep Finset.univ fun p : Fin 4 => crd (F := F) (yrC c p) : sProp 𝕄) :=
    bigSep_mono fun q _ => hY q
  have h2 : (tallyAt (barC c) () 2 : CellTallies nD τ sig Unit) = tallyAt (barC c) () 1 + tallyAt (barC c) () 1 := (tallyAt_add _ _ 1 1).symm
  rw [h2]
  iintro ⟨⟨⟨Hx, Hy⟩, H1⟩, H2⟩
  ihave H1 := (Pipeline.launchCred_tallyAt (.reg barS) py py py_py py_py () 1 c) $$ H1
  ihave H2 := (Pipeline.launchCred_tallyAt (.reg barS) px px px_px px_px () 1 c) $$ H2
  isplitl [H1 H2]
  · iapply (cred_add _ _).2
    isplitl [H1]; · iexact H1
    iexact H2
  isplitl [Hx]
  · iapply hXs; iexact Hx
  iapply hYs; iexact Hy

/-! ## The launch -/

variable (m : (ℓ : Loc nD τ sig) → Buf (Elt F) ℓ) (ρ : Dev nD → PrngReg)

/-- What every device may consult. -/
def records (K : GSem nD τ sig → ℕ) : sProp 𝕄 := iprop(Inv (P m) K ∗ bigSep barCells fun g => reached ER g 0)

instance records_persistent (K : GSem nD τ sig → ℕ) : Persistent (records m K) := by unfold records; infer_instance

theorem bar_reached (d : Dev nD) : (bigSep barCells fun g => (reached ER g 0 : sProp 𝕄)) ⊢ rch (F := F) (barC d) :=
  bigSep_elim (Finset.mem_map.mpr ⟨d, Finset.mem_univ _, rfl⟩)

theorem spare_all (c : Dev nD) :
    (bigSep Finset.univ (spare (F := F) c) : sProp 𝕄)
      = iprop((bigSep Finset.univ fun p : Fin 4 => tok (F := F) (xsC c p)) ∗ (bigSep Finset.univ fun p : Fin 4 => tok (F := F) (xrC (px c) p))
        ∗ (bigSep Finset.univ fun p : Fin 4 => tok (F := F) (ysC c p)) ∗ (bigSep Finset.univ fun p : Fin 4 => tok (F := F) (yrC (py c) p))
        ∗ (bigSep Finset.univ fun p : Fin 4 => tok (F := F) (owC c p))
        ∗ (bigSep Finset.univ fun p : Fin 4 => crd (F := F) (xrC c p)) ∗ bigSep Finset.univ fun p : Fin 4 => crd (F := F) (yrC c p)) := by
  unfold spare
  simp only [bigSep_sep']

/-- The state a device's thread starts in. -/
def T0 (c : Dev nD) : sProp 𝕄 :=
  iprop(StableHlo.held (c : Thread nD τ) (Pipeline.ucRefs τ sig) (V0 m c) ∗ (start (P m) c ∗ ow (F := F) c (owe0 c)))

/-- What of a device's holdings at launch is not the protocol's. -/
def bundle (c : Dev nD) : sProp 𝕄 :=
  iprop(StableHlo.held (c : Thread nD τ) (Pipeline.ucRefs τ sig) (V0 m c)
    ∗ (cred (tallyAt (barC c) () 2) ∗ (bigSep Finset.univ fun p : Fin 4 => crd (F := F) (xrC c p)) ∗ bigSep Finset.univ fun p : Fin 4 => crd (F := F) (yrC c p))
    ∗ owes (c : Thread nD τ) (owe0 c) ∅)

theorem T0_intro (K : GSem nD τ sig → ℕ) (c : Dev nD) : iprop(records m K ∗ (linear (F := F) c ∗ bundle m c)) ⊢ (T0 m c : sProp 𝕄) := by
  unfold records linear bundle T0 start barStart
  rw [spare_all]
  iintro ⟨⟨#HI, #Hr⟩, ⟨Hat, Hop, Hd1, Hd2, Hxs, Hxr, Hys, Hyr, How⟩, Hh, ⟨Hc, Hcx, Hcy⟩, HO⟩
  isplitl [Hh]; · iexact Hh
  isplitr [HO]; swap; · iexists _; iexact HO
  isplitr; · iexists K; iexact HI
  isplitl [Hop]; · iexact Hop
  isplitl [Hat Hc Hd1 Hd2]
  · isplitl [Hat]; · iexact Hat
    isplitl [Hc]; · iexact Hc
    isplitl [Hd1]; · iexact Hd1
    isplitl [Hd2]; · iexact Hd2
    isplitr; · iapply (bar_reached (px c)); iexact Hr
    iapply (bar_reached (py c)); iexact Hr
  isplitl [Hxs]; · iexact Hxs
  isplitl [Hxr]; · iexact Hxr
  isplitl [Hys]; · iexact Hys
  isplitl [Hyr]; · iexact Hyr
  isplitl [How]; · iexact How
  isplitl [Hcx]; · iexact Hcx
  iexact Hcy

/-- A holding of the whole machine, kept on device 0 until the devices' shares are dealt. -/
def park (X : sProp (MT nD τ sig Unit (Elt F) ℕ UU ℕ)) (c : Dev nD) : sProp 𝕄 := if c = 0 then X else iprop(emp)

theorem park_all (X : sProp (MT nD τ sig Unit (Elt F) ℕ UU ℕ)) : bigSep Finset.univ (park X) = X := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

def G : Dev nD → sProp (MT nD τ sig Unit (Elt F) ℕ UU ℕ) := park (BI.own (ER (launchOf barCells dmaCells tokens)))

theorem own_core (c : Dev nD) :
    iprop(unscopedBufs c (fun b => m ((c : Thread nD τ).loc b)) ∗ unscopedSems0 c
        ∗ owes (c : Thread nD τ) (owe0 c) ∅ ∗ Pipeline.launchCred owe0 c ∗ prngReg c (ρ c) ∗ G (F := F) c)
      ⊢ (iprop(bundle m c ∗ (zero (F := F) (barC c) ∗ G (F := F) c)) : sProp 𝕄) := by
  rw [show unscopedBufs c (fun b => m ((c : Thread nD τ).loc b)) = StableHlo.held (c : Thread nD τ) (Pipeline.ucRefs τ sig) (V0 m c) from
    Pipeline.unscopedBufs_held c (V0 m c), bar_sems]
  unfold bundle
  iintro ⟨Hh, Hus, HO, Hcr, -, HG⟩
  ihave Hc := (creds (F := F) c) $$ Hcr
  isplitr [Hus HG]
  · isplitl [Hh]; · iexact Hh
    isplitl [Hc]; · iexact Hc
    iexact HO
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G (F := F) c)) ∗ levAts L lv)
      ⊢ (|={Set.univ}=> bigSep Finset.univ (T0 m) : sProp 𝕄) := by
  have hv : bigSep Finset.univ (fun c : Dev nD => zero (F := F) (barC c)) = bigSep barCells (fun g => (semVal g 0 : sProp 𝕄)) := by
    unfold barCells; rw [bigSep_map]; rfl
  have hat : bigSep barCells (fun g => (atPos ER g 0 ∅ 0 : sProp 𝕄)) = bigSep Finset.univ (fun c : Dev nD => at0 (F := F) (barC c)) := by
    unfold barCells; rw [bigSep_map]; rfl
  have hopen : bigSep dmaCells (fun g => (openTok ER g : sProp 𝕄)) = bigSep Finset.univ (fun c : Dev nD => opens (F := F) c) := by
    unfold dmaCells opens; rw [bigSep_map, bigSep_univ_prod]; rfl
  have hcores : (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G (F := F) c))
      ⊢ (iprop((bigSep Finset.univ fun c : Dev nD => bundle m c) ∗ (bigSep Finset.univ fun c : Dev nD => zero (F := F) (barC c)) ∗ bigSep Finset.univ (G (F := F))) : sProp 𝕄) := by
    rw [← bigSep_sep', ← bigSep_sep']
    exact bigSep_mono fun c _ => own_core m ρ c
  iintro ⟨H, -⟩
  ihave H' := hcores $$ H
  icases H' with ⟨HB, Hv, HG⟩
  ihave Hu := (show bigSep Finset.univ (G (F := F)) ⊢ BI.own (ER (launchOf barCells dmaCells tokens)) from
    Entails.of_eq (park_all (F := F) (BI.own (ER (launchOf barCells dmaCells tokens))))) $$ HG
  ihave Hv := (Entails.of_eq hv) $$ Hv
  imod (Rounds.fund_launch ER (Rd (P m)) cells_disj (fun g _ h => h) tokens) $$ [Hv Hu] with ⟨%K, -, #Hinv, #Hr, Hat, Hopen, Htok⟩
  · isplitl [Hv]
    · iexact Hv
    · iexact Hu
  imodintro
  iapply (bigSep_with_persistent (R := records m K) (Φ := fun c => iprop(linear (F := F) c ∗ bundle m c)) fun c _ => T0_intro m K c)
  isplitr
  · unfold records Inv
    isplitr; · iexact Hinv
    iexact Hr
  rw [bigSep_sep']
  isplitr [HB]
  · iapply (Entails.of_eq (linear_all (F := F)))
    isplitl [Hat]; · iapply (Entails.of_eq hat) $$ Hat
    isplitl [Hopen]; · iapply (Entails.of_eq hopen) $$ Hopen
    iexact Htok
  · iexact HB

end Cert.KernelIdeal.Swap
-- ==== Proof.Run.lean ====
/-
# The run of the whole program

The host stretch and the region, launched on four devices together, for any interpretation of the float operations.
-/
module

public import proofs.«01_k».proof.Proof.Launch

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The launch element -/

theorem cells_inj : Function.Injective (Pipeline.PerCore.cellOf (nD := nD) (τ := τ) (Pipeline.pinD (pcfgs (F := F)) ad)) :=
  Pipeline.PerCore.cellOf_injective _
    (fun _ p => by
      obtain rfl := Subsingleton.elim p 0
      exact Pipeline.specSemsDistinct_of_nodup _ (semsDistinct 0))
    (fun _ p p' h => absurd (Subsingleton.elim p p') h)

/-- The pipeline's ghost cells, and the protocol's. -/
def u₀ : UU :=
  (initOf (Pipeline.PerCore.cells (Pipeline.pinD (pcfgs (F := F)) ad) cells_inj)
      (Pipeline.PerCore.launchToks (Pipeline.pinD (pcfgs (F := F)) ad) cells_inj),
    launchOf barCells dmaCells tokens)

variable (m : (ℓ : Loc nD τ sig) → Buf (Elt F) ℓ) (ρ : Dev nD → PrngReg)

/-- The program's items: the host stretch that fills the table, and the region. -/
abbrev items (c : Dev nD) : List (Pipeline.PerCore.Seg (pcfgs (F := F)) ad (pdats m) () defs₀ 𝒱₀ L lv) :=
  [.host (seg0 m 𝒱₀ L lv (fun _ c => iprop(start (P m) c ∗ ow (F := F) c (owe0 c))) c), .region (region m)]

set_option backward.isDefEq.respectTransparency.types false in
/-- The run: from any memory with zero counters every weakly fair execution terminates; every final state has the arguments
    unchanged, each device's result assembled from the reduced panels, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v6) = outOf (P m) c) ∧ r.2.sem = fun _ => 0) :=
  Pipeline.PerCore.θ_run_regions_kit_sems (pcfgs (F := F)) ad (pdats m) () cells_inj EP defs₀ 𝒱₀ L lv m ρ main (items m)
    (fun c Q => by
      rewrite [main_chain c, Pipeline.PerCore.Seg.run_eq_chain,
        show (items m c).map Pipeline.PerCore.Seg.prog = [
          StableHlo.seq (hostOps0 c),
          Prog.lift (.customCall (Pipeline.entry 0) ()) ] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := owe0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      unfold G
      rw [park_all]; iexact HX)
    (T₀ := T0 m) (Tₙ := result m)
    (hch := fun c => ⟨.rfl, .rfl, .rfl⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v6) = outOf (P m) c) ∧ s.sem (barC c) = 0)
    (hfin := fun c s' => by
      unfold result
      iintro ⟨⟨Hx, Hy, Hz, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => (h c).1,
      sem_eq_zero hs fun c sm hsm => by
        obtain rfl := unscoped_bar sm hsm
        exact (h c).2⟩)

end Cert.KernelIdeal.Swap
-- ==== Proof.Values.lean ====
/-
# What the program computes, over the extended reals

Each device's accumulator is a sum over its half of the contracted columns; a pair's two halves make the whole sum.
-/
module

public import proofs.«01_k».proof.Proof.Run
public import Idealize.ShloMosaic.Lib.MatmulPlain
public import Idealize.ShloMosaic.Lib.ValueIdx
public import Idealize.ShloMosaic.Lib.Pipeline.Value

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The whole arrays' shape. -/
abbrev SW : Shape := ⟨2, ![4096, 16384]⟩

variable (A B : SW.Idx → EReal)

/-- The product at row `r` of `dy`, row `n` of `W` and place `k` along both. -/
def term (r n k : ℕ) : EReal :=
  A (ix2 ⟨r % 4096, Nat.mod_lt _ (by decide)⟩ ⟨k % 16384, Nat.mod_lt _ (by decide)⟩)
    * B (ix2 ⟨n % 4096, Nat.mod_lt _ (by decide)⟩ ⟨k % 16384, Nat.mod_lt _ (by decide)⟩)

/-- Element `(r, n)` of the whole product. -/
def whole (r n : ℕ) : EReal := ∑ k ∈ Finset.range 16384, term A B r n k

/-- The device's columns of an array. -/
def part (A : SW.Idx → EReal) (c : Dev nD) : Vec Ideal S4096x8192 .bf16 := fun i =>
  A (ix2 ⟨(i 0).val % 4096, Nat.mod_lt _ (by decide)⟩ ⟨(8192 * (c.val / 2) + (i 1).val) % 16384, Nat.mod_lt _ (by decide)⟩)

theorem ix2_eq {n0 n1 : ℕ} (a : Fin n0) (b : Fin n1) : ValueIdx.ix2 a b = ix2 a b := by
  funext i
  match i with
  | ⟨0, _⟩ => rfl
  | ⟨1, _⟩ => rfl

theorem pay8_at (i : S2048x1024.Idx) : (k0_pay8 (F := Ideal)) i = 0 := by
  show Ideal.ofBits .f32 0x00000000#32 = 0
  exact Ideal.ofBits_zero_f32

theorem pay9_at (X : Vec Ideal S2048x512 .bf16) (Y : Vec Ideal S1024x512 .bf16) (Z : Vec Ideal S2048x1024 .f32) (a : Fin 2048) (b : Fin 1024) :
    k0_pay9 (F := Ideal) X Y Z (ix2 a b) = Z (ix2 a b) + ∑ k : Fin 512, X (ix2 a k) * Y (ix2 b k) := by
  unfold k0_pay9
  simp only [shapeCast_self]
  refine congrArg (Z (ix2 a b) + ·) ?_
  simp only [← ix2_eq]
  refine (Ideal.matmul_transposedRhs_apply (M := 2048) (K := 512) (N := 1024) none X Y (constant S2048x1024 .f32 0x00000000#32) a b).trans ?_
  rw [show (constant (F := Ideal) S2048x1024 .f32 0x00000000#32 : S2048x1024.Idx → EReal) (ValueIdx.ix2 a b) = 0 from Ideal.ofBits_zero_f32, zero_add]

section

variable (m : (ℓ : Loc nD τ sig) → Buf (Elt Ideal) ℓ)
variable (hA : ∀ c, dyA m c = part A c) (hB : ∀ c, wA m c = part B c)

include hA hB

/-- The accumulator after `k` steps: the sum over the first `512 k` of the device's places. -/
theorem acc_at (c : Dev nD) (j : ℕ) (hj : j < 4) (a : Fin 2048) (b : Fin 1024) : ∀ k : ℕ, k ≤ 16 →
    acc m c j k (ix2 a b) = ∑ s ∈ Finset.range (512 * k), term A B (2048 * (c.val % 2) + a.val) (1024 * j + b.val) (8192 * (c.val / 2) + s)
  | 0, _ => by
    rw [Nat.mul_zero, Finset.range_zero, Finset.sum_empty]
    exact pay8_at (ix2 a b)
  | k + 1, hk => by
    show k0_pay9 (F := Ideal) (dyB m c k) (wB m c j k) (acc m c j k) (ix2 a b) = _
    rw [pay9_at, acc_at c j hj a b k (by omega), Nat.mul_succ, Finset.sum_range_add]
    congr 1
    rw [Finset.sum_range]
    refine Finset.sum_congr rfl fun s _ => ?_
    have hs := s.isLt
    have ha := a.isLt
    have hb := b.isLt
    have hc : c.val < 4 := c.isLt
    unfold dyB wB term
    rw [hA, hB]
    unfold part
    refine congrArg₂ (fun x y : EReal => x * y) (congrArg A ?_) (congrArg B ?_)
    · refine congrArg₂ ix2 (Fin.ext ?_) (Fin.ext ?_)
      · show (2048 * (c.val % 2) + a.val) % 4096 % 4096 = (2048 * (c.val % 2) + a.val) % 4096
        omega
      · show (8192 * (c.val / 2) + (512 * k + s.val) % 8192) % 16384 = (8192 * (c.val / 2) + (512 * k + s.val)) % 16384
        omega
    · refine congrArg₂ ix2 (Fin.ext ?_) (Fin.ext ?_)
      · show (1024 * j + b.val) % 4096 % 4096 = (1024 * j + b.val) % 4096
        omega
      · show (8192 * (c.val / 2) + (512 * k + s.val) % 8192) % 16384 = (8192 * (c.val / 2) + (512 * k + s.val)) % 16384
        omega

theorem P_at (c : Dev nD) (p : Fin 4) (a : Fin 2048) (b : Fin 1024) :
    P m c p (ix2 a b) = ∑ s ∈ Finset.range 8192, term A B (2048 * (c.val % 2) + a.val) (1024 * p.val + b.val) (8192 * (c.val / 2) + s) :=
  acc_at A B m hA hB c p.val p.isLt a b 16 (le_refl _)

/-- The two partial products of a pair of devices add up to the whole sum. -/
theorem R_at (c : Dev nD) (p : Fin 4) (a : Fin 2048) (b : Fin 1024) :
    R (P m) c p (ix2 a b) = whole A B (2048 * (c.val % 2) + a.val) (1024 * p.val + b.val) := by
  show P m c p (ix2 a b) + P m (px c) p (ix2 a b) = _
  rw [P_at A B m hA hB, P_at A B m hA hB]
  have e1 : (px c).val % 2 = c.val % 2 := by revert c; decide
  have e2 : c.val / 2 = 0 ∧ (px c).val / 2 = 1 ∨ c.val / 2 = 1 ∧ (px c).val / 2 = 0 := by revert c; decide
  rw [e1]
  unfold whole
  rw [show (16384 : ℕ) = 8192 + 8192 from rfl, Finset.sum_range_add]
  rcases e2 with ⟨h, h'⟩ | ⟨h, h'⟩
  · rw [h, h']; simp only [Nat.mul_zero, Nat.zero_add, Nat.mul_one]
  · rw [h, h', add_comm]; simp only [Nat.mul_zero, Nat.zero_add, Nat.mul_one]

theorem redAt_at (c : Dev nD) (y : ℕ) (hy : y < 2) (p : Fin 4) (a : Fin 2048) (b : Fin 1024) :
    redAt (P m) c y p (ix2 a b) = whole A B (2048 * y + a.val) (1024 * p.val + b.val) := by
  unfold redAt
  split
  · next h => rw [R_at A B m hA hB, h]
  · next h =>
    have e : ∀ c : Dev nD, (py c).val % 2 = 1 - c.val % 2 := by decide
    have e := e c
    rw [R_at A B m hA hB, show (py c).val % 2 = y by omega]

/-- Every device's result is the whole product. -/
theorem outOf_eq (c : Dev nD) (r n : Fin 4096) : outOf (P m) c (ix2 r n) = whole A B r.val n.val := by
  have hr := r.isLt
  have hn := n.isLt
  show redAt (P m) c (r.val / 2048) ⟨n.val / 1024 % 4, _⟩ (ix2 ⟨r.val % 2048, _⟩ ⟨n.val % 1024, _⟩) = _
  rw [redAt_at A B m hA hB c _ (by omega)]
  show whole A B (2048 * (r.val / 2048) + r.val % 2048) (1024 * (n.val / 1024 % 4) + n.val % 1024) = _
  rw [show 2048 * (r.val / 2048) + r.val % 2048 = r.val by omega, show 1024 * (n.val / 1024 % 4) + n.val % 1024 = n.val by omega]

end

end Cert.KernelIdeal.Swap
-- ==== Proof.Reference.lean ====
/-
# The reference, and the two sides met

The reference's product read at an element, and a device's block of its arrays.
-/
module

public import proofs.«01_k».proof.Proof.Values
public import proofs.«01_k».proof.Proof.Gen.ReferenceIdeal.Run
public import Idealize.ShloMosaic.Lib.StackMember
public import Idealize.ShloMosaic.Lib.ValueLayout
public import Idealize.ShloMosaic.Lib.Layout

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable (A B : SW.Idx → EReal)

/-- A device's block of a whole array. -/
theorem part_of_block (A : SW.Idx → EReal) (c : Dev nD) :
    (Layout.blockN ⟨2, ![4096, 8192]⟩ ⟨2, ![4096, 16384]⟩ (Layout.meshBlock [2, 2] ![[], [0]] c) A : Vec Ideal S4096x8192 .bf16) = part A c := by
  funext (i : S4096x8192.Idx)
  have h0 : (i 0).val < 4096 := (i 0).isLt
  have h1 : (i 1).val < 8192 := (i 1).isLt
  have hc : c.val < 4 := c.isLt
  show A _ = A _
  congr 1
  funext (a : Fin 2)
  apply Fin.ext
  fin_cases a
  · show 0 * 4096 + (i 0).val = (i 0).val % 4096
    omega
  · show (c.val / 2 % 2 * 1 + 0) * 8192 + (i 1).val = (8192 * (c.val / 2) + (i 1).val) % 16384
    omega

/-- The reference's result, element by element. -/
theorem ref_at (r n : Fin 4096) :
    (truncf .bf16 (Host.dotGeneral (F := Ideal) Cert.ReferenceIdeal.dot_S4096x16384_S16384x4096_S4096x4096_1_0_0_1_n_n none
        (extf .f32 (A : FVec Ideal Cert.ReferenceIdeal.S4096x16384 .bf16) Cert.ReferenceIdeal.Gen.facts₀.bitsLt_bf16_f32)
        (transpose Cert.ReferenceIdeal.S16384x4096 [1, 0] (extf .f32 (B : FVec Ideal Cert.ReferenceIdeal.S4096x16384 .bf16) Cert.ReferenceIdeal.Gen.facts₀.bitsLt_bf16_f32)
          Cert.ReferenceIdeal.Gen.facts₀.transposes_S4096x16384_S16384x4096_1_0)) Cert.ReferenceIdeal.Gen.facts₀.bitsLt_bf16_f32
      : FVec Ideal Cert.ReferenceIdeal.S4096x4096 .bf16) (ix2 r n) = whole A B r.val n.val := by
  rw [← ix2_eq]
  refine (StackMember.dotGeneral_plain_apply (m := 4096) (k := 16384) (n := 4096) (φ₁ := .f32) (φ₂ := .f32) none
    (A : FVec Ideal ⟨2, ![4096, 16384]⟩ .f32)
    (transpose ⟨2, ![16384, 4096]⟩ [1, 0] (B : (⟨2, ![4096, 16384]⟩ : Shape).Idx → EReal) Cert.ReferenceIdeal.Gen.facts₀.transposes_S4096x16384_S16384x4096_1_0) r n).trans ?_
  unfold whole
  rw [Finset.sum_range]
  refine Finset.sum_congr rfl fun k _ => ?_
  have hr := r.isLt
  have hn := n.isLt
  have hk := k.isLt
  refine congrArg₂ (fun x y : EReal => x * y) (congrArg A ?_) ((ValueIdx.transpose_ix2_apply B Cert.ReferenceIdeal.Gen.facts₀.transposes_S4096x16384_S16384x4096_1_0 k n).trans (congrArg B ?_))
  · rw [ix2_eq]; exact congrArg₂ ix2 (Fin.ext (Nat.mod_eq_of_lt hr).symm) (Fin.ext (Nat.mod_eq_of_lt hk).symm)
  · rw [ix2_eq]; exact congrArg₂ ix2 (Fin.ext (Nat.mod_eq_of_lt hn).symm) (Fin.ext (Nat.mod_eq_of_lt hk).symm)

end Cert.KernelIdeal.Swap
-- ==== Proof.Twin.lean ====
/-
# The two printed texts are one program

The program is printed once for bits and once for the extended reals, with no operation replaced: the two texts have the same kernel
body, the same body table and the same host program.
-/
module

public import proofs.«01_k».proof.Proof.Gen.Kernel
public import proofs.«01_k».proof.Proof.Gen.KernelIdeal

@[expose] public section

noncomputable section

namespace Cert.KernelIdeal.Twin

open Idealize.ShloMosaic

variable {F : FTy → Type} [FloatOps F]

set_option maxHeartbeats 1000000 in
theorem body : @Cert.Kernel.cc0__fused_body F _ _ = @Cert.KernelIdeal.cc0__fused_body F _ _ := rfl

set_option maxHeartbeats 1000000 in
theorem table : @Cert.Kernel.defs₀ F _ _ = @Cert.KernelIdeal.defs₀ F _ _ := by
  unfold Cert.Kernel.defs₀ Cert.KernelIdeal.defs₀
  refine congrArg Defs.onTc ?_
  funext l x
  match l, x with
  | 0, (t, s) =>
    dsimp only
    rfl
  | ⟨_ + 1, h⟩, _ => exact absurd h (Nat.not_lt.2 (Nat.le_add_left _ _))

theorem whole_table : @Cert.Kernel.defs F _ _ = @Cert.KernelIdeal.defs F _ _ :=
  congrArg (fun D => Pipeline.defs (Cert.KernelIdeal.pcfgs (F := F)) D) (table (F := F))

set_option maxHeartbeats 1000000 in
theorem host : @Cert.Kernel.main F _ _ = @Cert.KernelIdeal.main F _ _ := rfl

end Cert.KernelIdeal.Twin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Reference
public import proofs.«01_k».proof.Proof.Twin
public import Idealize.ShloMosaic.Adequacy
public import Idealize.ShloMosaic.Init

@[expose] public section

noncomputable section

namespace Cert.Proof

open Idealize.ShloMosaic Idealize.SL.Sem

section

open Cert.KernelIdeal.Swap

theorem idx_eq (i : (⟨2, ![4096, 4096]⟩ : Shape).Idx) : i = ix2 (i 0) (i 1) := by
  funext (a : Fin 2)
  match a with
  | 0 => rfl
  | 1 => rfl

/-- The program at bits: it runs, its arguments end unchanged, every counter ends at zero. -/
theorem frame_kernel : @Cert.quiescent_Kernel Cert.Kernel.Gen.facts := fun m ρ _ =>
  Eq.mpr (congrArg (fun D => θ_run D (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0)) (Cert.KernelIdeal.Twin.whole_table (F := Bits)))
    ((θ_run (Cert.KernelIdeal.defs (F := Bits)) _ _).mono (fun _ h => ⟨fun c => ⟨(h.1 c).1, (h.1 c).2.1⟩, h.2⟩) (run_main (F := Bits) m ρ))

/-- The program over the extended reals: the same. -/
theorem frame_ideal : @Cert.quiescent_KernelIdeal Cert.KernelIdeal.Gen.facts := fun m ρ _ =>
  (θ_run (Cert.KernelIdeal.defs (F := Ideal)) _ _).mono (fun _ h => ⟨fun c => ⟨(h.1 c).1, (h.1 c).2.1⟩, h.2⟩) (run_main (F := Ideal) m ρ)

/-- Every device's result and the reference's are the whole product. -/
theorem values : @Cert.algebraic_KernelIdeal_ReferenceIdeal Cert.KernelIdeal.Gen.facts Cert.ReferenceIdeal.Gen.facts := by
  intro m ρ m' ρ' _ hm
  let A : SW.Idx → EReal := m' (((0 : Dev Cert.ReferenceIdeal.nD).tc : Thread Cert.ReferenceIdeal.nD Cert.ReferenceIdeal.τ).loc Cert.ReferenceIdeal.main_arg0)
  let B : SW.Idx → EReal := m' (((0 : Dev Cert.ReferenceIdeal.nD).tc : Thread Cert.ReferenceIdeal.nD Cert.ReferenceIdeal.τ).loc Cert.ReferenceIdeal.main_arg1)
  have hA : ∀ c, dyA m c = part A c := fun c => (hm c).1.trans (part_of_block A c)
  have hB : ∀ c, wA m c = part B c := fun c => (hm c).2.trans (part_of_block B c)
  refine ⟨outOf (P m) 0, ?_, ?_⟩
  · refine (θ_run (Cert.KernelIdeal.defs (F := Ideal)) _ _).mono (fun _ h c => ⟨(h.1 c).2.2.trans ?_, (h.1 c).1, (h.1 c).2.1⟩) (run_main (F := Ideal) m ρ)
    funext (i : Cert.KernelIdeal.S4096x4096.Idx)
    rw [idx_eq i]
    exact (outOf_eq A B m hA hB c (i 0) (i 1)).trans (outOf_eq A B m hA hB 0 (i 0) (i 1)).symm
  · refine (θ_run (Cert.ReferenceIdeal.defs (F := Ideal)) _ _).mono (fun _ h => ⟨(h 0).1.trans ?_, (h 0).2.1, (h 0).2.2⟩) (Cert.ReferenceIdeal.Value.run (F := Ideal) m' ρ')
    funext (i : Cert.ReferenceIdeal.S4096x4096.Idx)
    rw [idx_eq i]
    exact (ref_at A B (i 0) (i 1)).trans (outOf_eq A B m hA hB 0 (i 0) (i 1)).symm

end

/-- The reference runs, its arguments end unchanged, every counter ends at zero. -/
theorem frame_reference : @Cert.quiescent_ReferenceIdeal Cert.ReferenceIdeal.Gen.facts := fun m ρ _ =>
  (θ_run (Cert.ReferenceIdeal.defs (F := Ideal)) _ _).mono
    (fun _ h => ⟨fun c => ⟨(h c).2.1, (h c).2.2⟩, sem_eq_zero_of_no_sems (by decide) _⟩) (Cert.ReferenceIdeal.Value.run (F := Ideal) m ρ)

theorem claim : Cert.Claim :=
  ⟨Cert.Kernel.Gen.facts, Cert.KernelIdeal.Gen.facts, Cert.ReferenceIdeal.Gen.facts,
    frame_kernel, frame_ideal, frame_reference, trivial, values⟩

end Cert.Proof

end
